-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x255x52x52 : Shape := ⟨4, ![32, 255, 52, 52]⟩
abbrev S32x8112x85 : Shape := ⟨3, ![32, 8112, 85]⟩
abbrev S17x8x128 : Shape := ⟨3, ![17, 8, 128]⟩
abbrev S17x4x52 : Shape := ⟨3, ![17, 4, 52]⟩
abbrev S416x85 : Shape := ⟨2, ![416, 85]⟩
abbrev S_ : Shape := ⟨0, ![]⟩
abbrev S16 : Shape := ⟨1, ![16]⟩
abbrev S17x8x52 : Shape := ⟨3, ![17, 8, 52]⟩
abbrev S1x17x8x52 : Shape := ⟨4, ![1, 17, 8, 52]⟩
abbrev S1x416x85 : Shape := ⟨3, ![1, 416, 85]⟩
abbrev S1x1x16 : Shape := ⟨3, ![1, 1, 16]⟩
abbrev S1x17x4x52 : Shape := ⟨4, ![1, 17, 4, 52]⟩
abbrev S208x85 : Shape := ⟨2, ![208, 85]⟩
abbrev S1x208x85 : Shape := ⟨3, ![1, 208, 85]⟩

abbrev nBuf : Table → Nat
  | .hbm => 2
  | .local .scVector .vmem => 4
  | _ => 0

abbrev bufTy : (tb : Table) → Fin (nBuf tb) → BufTy
  | .hbm, ⟨0, _⟩ => ⟨S32x255x52x52, .f32⟩
  | .hbm, ⟨1, _⟩ => ⟨S32x8112x85, .f32⟩
  | .local .scVector .vmem, ⟨0, _⟩ => ⟨S17x8x128, .f32⟩
  | .local .scVector .vmem, ⟨1, _⟩ => ⟨S17x8x128, .f32⟩
  | .local .scVector .vmem, ⟨2, _⟩ => ⟨S17x4x52, .f32⟩
  | .local .scVector .vmem, ⟨3, _⟩ => ⟨S416x85, .f32⟩
  | _, _ => ⟨S32x255x52x52, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c3_i32 : BitVec 32 := 3#32
  let v3 : BitVec 32 := Scalar.addi c0_i32_0 c3_i32
  let c1_i32 : BitVec 32 := 1#32
  ⟨c0_i32_0, v3, c1_i32⟩
def k0_off1 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c85_i32 : BitVec 32 := 85#32
  let v13 : BitVec 32 := Scalar.muli arg11 c85_i32
  let c0_i32_7 : BitVec 32 := 0#32
  let v14 : BitVec 32 := Scalar.addi v13 c0_i32_7
  let c0_i32_11 : BitVec 32 := 0#32
  let c0_i32_12 : BitVec 32 := 0#32
  ![v1.toNat, v14.toNat, 0, 0]
@[reducible] def k0_t2_loop : Scf.Loop 32 :=
  let c0_i32_19 : BitVec 32 := 0#32
  let c3_i32_20 : BitVec 32 := 3#32
  let v21 : BitVec 32 := Scalar.addi c0_i32_19 c3_i32_20
  let c1_i32_21 : BitVec 32 := 1#32
  ⟨c0_i32_19, v21, c1_i32_21⟩
def k0_mult1 (k0_t2 : Fin k0_t2_loop.trips) : BitVec 32 :=
  let c0_i32_19 : BitVec 32 := 0#32
  let c1_i32_21 : BitVec 32 := 1#32
  let arg12 : BitVec 32 := Scf.iv c0_i32_19 c1_i32_21 k0_t2
  let c16_i32 : BitVec 32 := 16#32
  let v46 : BitVec 32 := Scalar.muli arg12 c16_i32
  v46
def k0_mult2 (k0_t2 : Fin k0_t2_loop.trips) : BitVec 32 :=
  let c0_i32_19 : BitVec 32 := 0#32
  let c1_i32_21 : BitVec 32 := 1#32
  let arg12 : BitVec 32 := Scf.iv c0_i32_19 c1_i32_21 k0_t2
  let c16_i32_54 : BitVec 32 := 16#32
  let v48 : BitVec 32 := Scalar.muli arg12 c16_i32_54
  let c8_i32 : BitVec 32 := 8#32
  let v49 : BitVec 32 := Scalar.addi v48 c8_i32
  v49
def k0_off2 (i : grid0.Coords) (k0_t1 : Fin k0_t1_loop.trips) (k0_t2 : Fin k0_t2_loop.trips) (c0_i32_56 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c85_i32_55 : BitVec 32 := 85#32
  let v51 : BitVec 32 := Scalar.muli arg11 c85_i32_55
  let v52 : BitVec 32 := Scalar.addi v51 c0_i32_56
  let c0_i32_19 : BitVec 32 := 0#32
  let c1_i32_21 : BitVec 32 := 1#32
  let arg12 : BitVec 32 := Scf.iv c0_i32_19 c1_i32_21 k0_t2
  let c16_i32 : BitVec 32 := 16#32
  let v46 : BitVec 32 := Scalar.muli arg12 c16_i32
  let v47 : BitVec 32 := v46
  let c0_i32_60 : BitVec 32 := 0#32
  ![v1.toNat, v52.toNat, v47.toNat, 0]
def k0_cond1 (k0_t2 : Fin k0_t2_loop.trips) : BitVec 1 :=
  let c0_i32_19 : BitVec 32 := 0#32
  let c1_i32_21 : BitVec 32 := 1#32
  let arg12 : BitVec 32 := Scf.iv c0_i32_19 c1_i32_21 k0_t2
  let c0_i32_75 : BitVec 32 := 0#32
  let v67 : BitVec 1 := Scalar.cmpi .sgt arg12 c0_i32_75
  let v68 : BitVec 32 := Scalar.extui v67
  let c0_i32_76 : BitVec 32 := 0#32
  let v69 : BitVec 1 := Scalar.cmpi .ne v68 c0_i32_76
  v69

def k0_off3 (i : grid0.Coords) (k0_t1 : Fin k0_t1_loop.trips) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c2704_i32_308 : BitVec 32 := 2704#32
  let v243 : BitVec 32 := Scalar.muli arg11 c2704_i32_308
  let c0_i32_19 : BitVec 32 := 0#32
  let c1_i32_21 : BitVec 32 := 1#32
  let arg12 : BitVec 32 := Scf.iv c0_i32_19 c1_i32_21 k0_t2
  let c16_i32 : BitVec 32 := 16#32
  let v46 : BitVec 32 := Scalar.muli arg12 c16_i32
  let v47 : BitVec 32 := v46
  let c8_i32_307 : BitVec 32 := 8#32
  let v242 : BitVec 32 := Scalar.subi v47 c8_i32_307
  let c52_i32_309 : BitVec 32 := 52#32
  let v244 : BitVec 32 := Scalar.muli v242 c52_i32_309
  let v245 : BitVec 32 := Scalar.addi v243 v244
  let c0_i32_310 : BitVec 32 := 0#32
  ![v1.toNat, v245.toNat, 0]
@[reducible] def k0_t3_loop : Scf.Loop 32 :=
  let c0_i32_77 : BitVec 32 := 0#32
  let c8_i32_78 : BitVec 32 := 8#32
  let v70 : BitVec 32 := Scalar.addi c0_i32_77 c8_i32_78
  let c1_i32_79 : BitVec 32 := 1#32
  ⟨c0_i32_77, v70, c1_i32_79⟩
def k0_off4 (k0_t3 : Fin k0_t3_loop.trips) : Fin 3 → Nat :=
  let c0_i32_312 : BitVec 32 := 0#32
  let v254 : Index := Scalar.indexCast c0_i32_312
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v255 : Index := Scalar.indexCast v243
  let c0 : Index := 0#32
  ![0, v255.toNat, 0]
def k0_off5 (k0_t3 : Fin k0_t3_loop.trips) : Fin 3 → Nat :=
  let c1_i32_317 : BitVec 32 := 1#32
  let v267 : Index := Scalar.indexCast c1_i32_317
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v268 : Index := Scalar.indexCast v243
  let c0_318 : Index := 0#32
  ![1, v268.toNat, 0]
def k0_off6 (k0_t3 : Fin k0_t3_loop.trips) : Fin 3 → Nat :=
  let c2_i32_323 : BitVec 32 := 2#32
  let v281 : Index := Scalar.indexCast c2_i32_323
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v282 : Index := Scalar.indexCast v243
  let c0_324 : Index := 0#32
  ![2, v282.toNat, 0]
def k0_off7 (k0_t3 : Fin k0_t3_loop.trips) : Fin 3 → Nat :=
  let c3_i32_326 : BitVec 32 := 3#32
  let v289 : Index := Scalar.indexCast c3_i32_326
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v290 : Index := Scalar.indexCast v243
  let c0_327 : Index := 0#32
  ![3, v290.toNat, 0]

def k0_chk1 (v250 : IVec S16 32) (v297 : IVec S16 32) : Prop :=
  (∀ a x, ((![v250, v297] : Fin 2 → IVec S16 32) a x).toNat < S416x85.size a)
theorem k0_idx1_inb : ∀ (v250 : IVec S16 32) (v297 : IVec S16 32) (k0_hw1 : k0_chk1 v250 v297), ∀ a x, ((![v250, v297] : Fin 2 → IVec S16 32) a x).toNat < S416x85.size a := fun v250 v297 k0_hw1 => k0_hw1

def k0_chk2 (v250 : IVec S16 32) (v298 : IVec S16 32) : Prop :=
  (∀ a x, ((![v250, v298] : Fin 2 → IVec S16 32) a x).toNat < S416x85.size a)
theorem k0_idx2_inb : ∀ (v250 : IVec S16 32) (v298 : IVec S16 32) (k0_hw2 : k0_chk2 v250 v298), ∀ a x, ((![v250, v298] : Fin 2 → IVec S16 32) a x).toNat < S416x85.size a := fun v250 v298 k0_hw2 => k0_hw2

def k0_chk3 (v250 : IVec S16 32) (v299 : IVec S16 32) : Prop :=
  (∀ a x, ((![v250, v299] : Fin 2 → IVec S16 32) a x).toNat < S416x85.size a)
theorem k0_idx3_inb : ∀ (v250 : IVec S16 32) (v299 : IVec S16 32) (k0_hw3 : k0_chk3 v250 v299), ∀ a x, ((![v250, v299] : Fin 2 → IVec S16 32) a x).toNat < S416x85.size a := fun v250 v299 k0_hw3 => k0_hw3

def k0_chk4 (v250 : IVec S16 32) (v300 : IVec S16 32) : Prop :=
  (∀ a x, ((![v250, v300] : Fin 2 → IVec S16 32) a x).toNat < S416x85.size a)
theorem k0_idx4_inb : ∀ (v250 : IVec S16 32) (v300 : IVec S16 32) (k0_hw4 : k0_chk4 v250 v300), ∀ a x, ((![v250, v300] : Fin 2 → IVec S16 32) a x).toNat < S416x85.size a := fun v250 v300 k0_hw4 => k0_hw4
def k0_off8 (k0_t3 : Fin k0_t3_loop.trips) : Fin 3 → Nat :=
  let c0_i32_336 : BitVec 32 := 0#32
  let v309 : Index := Scalar.indexCast c0_i32_336
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v310 : Index := Scalar.indexCast v243
  let c16 : Index := 16#32
  ![0, v310.toNat, 16]
def k0_off9 (k0_t3 : Fin k0_t3_loop.trips) : Fin 3 → Nat :=
  let c1_i32_341 : BitVec 32 := 1#32
  let v322 : Index := Scalar.indexCast c1_i32_341
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v323 : Index := Scalar.indexCast v243
  let c16_342 : Index := 16#32
  ![1, v323.toNat, 16]
def k0_off10 (k0_t3 : Fin k0_t3_loop.trips) : Fin 3 → Nat :=
  let c2_i32_347 : BitVec 32 := 2#32
  let v336 : Index := Scalar.indexCast c2_i32_347
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v337 : Index := Scalar.indexCast v243
  let c16_348 : Index := 16#32
  ![2, v337.toNat, 16]
def k0_off11 (k0_t3 : Fin k0_t3_loop.trips) : Fin 3 → Nat :=
  let c3_i32_350 : BitVec 32 := 3#32
  let v344 : Index := Scalar.indexCast c3_i32_350
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v345 : Index := Scalar.indexCast v243
  let c16_351 : Index := 16#32
  ![3, v345.toNat, 16]

def k0_chk5 (v305 : IVec S16 32) (v352 : IVec S16 32) : Prop :=
  (∀ a x, ((![v305, v352] : Fin 2 → IVec S16 32) a x).toNat < S416x85.size a)
theorem k0_idx5_inb : ∀ (v305 : IVec S16 32) (v352 : IVec S16 32) (k0_hw5 : k0_chk5 v305 v352), ∀ a x, ((![v305, v352] : Fin 2 → IVec S16 32) a x).toNat < S416x85.size a := fun v305 v352 k0_hw5 => k0_hw5

def k0_chk6 (v305 : IVec S16 32) (v353 : IVec S16 32) : Prop :=
  (∀ a x, ((![v305, v353] : Fin 2 → IVec S16 32) a x).toNat < S416x85.size a)
theorem k0_idx6_inb : ∀ (v305 : IVec S16 32) (v353 : IVec S16 32) (k0_hw6 : k0_chk6 v305 v353), ∀ a x, ((![v305, v353] : Fin 2 → IVec S16 32) a x).toNat < S416x85.size a := fun v305 v353 k0_hw6 => k0_hw6

def k0_chk7 (v305 : IVec S16 32) (v354 : IVec S16 32) : Prop :=
  (∀ a x, ((![v305, v354] : Fin 2 → IVec S16 32) a x).toNat < S416x85.size a)
theorem k0_idx7_inb : ∀ (v305 : IVec S16 32) (v354 : IVec S16 32) (k0_hw7 : k0_chk7 v305 v354), ∀ a x, ((![v305, v354] : Fin 2 → IVec S16 32) a x).toNat < S416x85.size a := fun v305 v354 k0_hw7 => k0_hw7

def k0_chk8 (v305 : IVec S16 32) (v355 : IVec S16 32) : Prop :=
  (∀ a x, ((![v305, v355] : Fin 2 → IVec S16 32) a x).toNat < S416x85.size a)
theorem k0_idx8_inb : ∀ (v305 : IVec S16 32) (v355 : IVec S16 32) (k0_hw8 : k0_chk8 v305 v355), ∀ a x, ((![v305, v355] : Fin 2 → IVec S16 32) a x).toNat < S416x85.size a := fun v305 v355 k0_hw8 => k0_hw8
def k0_off12 (k0_t3 : Fin k0_t3_loop.trips) : Fin 3 → Nat :=
  let c0_i32_359 : BitVec 32 := 0#32
  let v364 : Index := Scalar.indexCast c0_i32_359
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v365 : Index := Scalar.indexCast v243
  let c32 : Index := 32#32
  ![0, v365.toNat, 32]
def k0_off13 (k0_t3 : Fin k0_t3_loop.trips) : Fin 3 → Nat :=
  let c1_i32_364 : BitVec 32 := 1#32
  let v377 : Index := Scalar.indexCast c1_i32_364
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v378 : Index := Scalar.indexCast v243
  let c32_365 : Index := 32#32
  ![1, v378.toNat, 32]
def k0_off14 (k0_t3 : Fin k0_t3_loop.trips) : Fin 3 → Nat :=
  let c2_i32_370 : BitVec 32 := 2#32
  let v391 : Index := Scalar.indexCast c2_i32_370
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v392 : Index := Scalar.indexCast v243
  let c32_371 : Index := 32#32
  ![2, v392.toNat, 32]
def k0_off15 (k0_t3 : Fin k0_t3_loop.trips) : Fin 3 → Nat :=
  let c3_i32_373 : BitVec 32 := 3#32
  let v399 : Index := Scalar.indexCast c3_i32_373
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v400 : Index := Scalar.indexCast v243
  let c32_374 : Index := 32#32
  ![3, v400.toNat, 32]

def k0_chk9 (v360 : IVec S16 32) (v407 : IVec S16 32) : Prop :=
  (∀ a x, ((![v360, v407] : Fin 2 → IVec S16 32) a x).toNat < S416x85.size a)
theorem k0_idx9_inb : ∀ (v360 : IVec S16 32) (v407 : IVec S16 32) (k0_hw9 : k0_chk9 v360 v407), ∀ a x, ((![v360, v407] : Fin 2 → IVec S16 32) a x).toNat < S416x85.size a := fun v360 v407 k0_hw9 => k0_hw9

def k0_chk10 (v360 : IVec S16 32) (v408 : IVec S16 32) : Prop :=
  (∀ a x, ((![v360, v408] : Fin 2 → IVec S16 32) a x).toNat < S416x85.size a)
theorem k0_idx10_inb : ∀ (v360 : IVec S16 32) (v408 : IVec S16 32) (k0_hw10 : k0_chk10 v360 v408), ∀ a x, ((![v360, v408] : Fin 2 → IVec S16 32) a x).toNat < S416x85.size a := fun v360 v408 k0_hw10 => k0_hw10

def k0_chk11 (v360 : IVec S16 32) (v409 : IVec S16 32) : Prop :=
  (∀ a x, ((![v360, v409] : Fin 2 → IVec S16 32) a x).toNat < S416x85.size a)
theorem k0_idx11_inb : ∀ (v360 : IVec S16 32) (v409 : IVec S16 32) (k0_hw11 : k0_chk11 v360 v409), ∀ a x, ((![v360, v409] : Fin 2 → IVec S16 32) a x).toNat < S416x85.size a := fun v360 v409 k0_hw11 => k0_hw11

def k0_chk12 (v360 : IVec S16 32) (v410 : IVec S16 32) : Prop :=
  (∀ a x, ((![v360, v410] : Fin 2 → IVec S16 32) a x).toNat < S416x85.size a)
theorem k0_idx12_inb : ∀ (v360 : IVec S16 32) (v410 : IVec S16 32) (k0_hw12 : k0_chk12 v360 v410), ∀ a x, ((![v360, v410] : Fin 2 → IVec S16 32) a x).toNat < S416x85.size a := fun v360 v410 k0_hw12 => k0_hw12
def k0_off16 (k0_t3 : Fin k0_t3_loop.trips) : Fin 3 → Nat :=
  let c0_i32_382 : BitVec 32 := 0#32
  let v419 : Index := Scalar.indexCast c0_i32_382
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v420 : Index := Scalar.indexCast v243
  let c36 : Index := 36#32
  ![0, v420.toNat, 36]
def k0_off17 (k0_t3 : Fin k0_t3_loop.trips) : Fin 3 → Nat :=
  let c1_i32_387 : BitVec 32 := 1#32
  let v432 : Index := Scalar.indexCast c1_i32_387
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v433 : Index := Scalar.indexCast v243
  let c36_388 : Index := 36#32
  ![1, v433.toNat, 36]
def k0_off18 (k0_t3 : Fin k0_t3_loop.trips) : Fin 3 → Nat :=
  let c2_i32_393 : BitVec 32 := 2#32
  let v446 : Index := Scalar.indexCast c2_i32_393
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v447 : Index := Scalar.indexCast v243
  let c36_394 : Index := 36#32
  ![2, v447.toNat, 36]
def k0_off19 (k0_t3 : Fin k0_t3_loop.trips) : Fin 3 → Nat :=
  let c3_i32_396 : BitVec 32 := 3#32
  let v454 : Index := Scalar.indexCast c3_i32_396
  let c0_i32_308 : BitVec 32 := 0#32
  let c0_i32_77 : BitVec 32 := 0#32
  let c1_i32_79 : BitVec 32 := 1#32
  let arg13 : BitVec 32 := Scf.iv c0_i32_77 c1_i32_79 k0_t3
  let c1_i32_307 : BitVec 32 := 1#32
  let v242 : BitVec 32 := Scalar.muli arg13 c1_i32_307
  let v243 : BitVec 32 := Scalar.addi c0_i32_308 v242
  let v455 : Index := Scalar.indexCast v243
  let c36_397 : Index := 36#32
  ![3, v455.toNat, 36]

def k0_chk13 (v415 : IVec S16 32) (v462 : IVec S16 32) : Prop :=
  (∀ a x, ((![v415, v462] : Fin 2 → IVec S16 32) a x).toNat < S416x85.size a)
theorem k0_idx13_inb : ∀ (v415 : IVec S16 32) (v462 : IVec S16 32) (k0_hw13 : k0_chk13 v415 v462), ∀ a x, ((![v415, v462] : Fin 2 → IVec S16 32) a x).toNat < S416x85.size a := fun v415 v462 k0_hw13 => k0_hw13

def k0_chk14 (v415 : IVec S16 32) (v463 : IVec S16 32) : Prop :=
  (∀ a x, ((![v415, v463] : Fin 2 → IVec S16 32) a x).toNat < S416x85.size a)
theorem k0_idx14_inb : ∀ (v415 : IVec S16 32) (v463 : IVec S16 32) (k0_hw14 : k0_chk14 v415 v463), ∀ a x, ((![v415, v463] : Fin 2 → IVec S16 32) a x).toNat < S416x85.size a := fun v415 v463 k0_hw14 => k0_hw14

def k0_chk15 (v415 : IVec S16 32) (v464 : IVec S16 32) : Prop :=
  (∀ a x, ((![v415, v464] : Fin 2 → IVec S16 32) a x).toNat < S416x85.size a)
theorem k0_idx15_inb : ∀ (v415 : IVec S16 32) (v464 : IVec S16 32) (k0_hw15 : k0_chk15 v415 v464), ∀ a x, ((![v415, v464] : Fin 2 → IVec S16 32) a x).toNat < S416x85.size a := fun v415 v464 k0_hw15 => k0_hw15

def k0_chk16 (v415 : IVec S16 32) (v465 : IVec S16 32) : Prop :=
  (∀ a x, ((![v415, v465] : Fin 2 → IVec S16 32) a x).toNat < S416x85.size a)
theorem k0_idx16_inb : ∀ (v415 : IVec S16 32) (v465 : IVec S16 32) (k0_hw16 : k0_chk16 v415 v465), ∀ a x, ((![v415, v465] : Fin 2 → IVec S16 32) a x).toNat < S416x85.size a := fun v415 v465 k0_hw16 => k0_hw16
@[reducible] def k0_t4_loop : Scf.Loop 32 :=
  let c0_i32_81 : BitVec 32 := 0#32
  let c104_i32 : BitVec 32 := 104#32
  let v71 : BitVec 32 := Scalar.addi c0_i32_81 c104_i32
  let c1_i32_82 : BitVec 32 := 1#32
  ⟨c0_i32_81, v71, c1_i32_82⟩
def k0_off20 (k0_t4 : Fin k0_t4_loop.trips) : Fin 3 → Nat :=
  let c32_i32 : BitVec 32 := 32#32
  let c0_i32_81 : BitVec 32 := 0#32
  let c1_i32_82 : BitVec 32 := 1#32
  let arg13 : BitVec 32 := Scf.iv c0_i32_81 c1_i32_82 k0_t4
  let c1_i32_307 : BitVec 32 := 1#32
  let v242 : BitVec 32 := Scalar.muli arg13 c1_i32_307
  let v243 : BitVec 32 := Scalar.addi c32_i32 v242
  let c3_i32_308 : BitVec 32 := 3#32
  let v244 : BitVec 32 := Scalar.shrui v243 c3_i32_308
  let v250 : Index := Scalar.indexCast v244
  let c7_i32 : BitVec 32 := 7#32
  let v245 : BitVec 32 := Scalar.andi v243 c7_i32
  let v251 : Index := Scalar.indexCast v245
  let c0 : Index := 0#32
  ![v250.toNat, v251.toNat, 0]

def k0_chk17 (v249 : IVec S16 32) (v264 : IVec S16 32) : Prop :=
  (∀ a x, ((![v264, v249] : Fin 2 → IVec S16 32) a x).toNat < S416x85.size a)
theorem k0_idx17_inb : ∀ (v249 : IVec S16 32) (v264 : IVec S16 32) (k0_hw17 : k0_chk17 v249 v264), ∀ a x, ((![v264, v249] : Fin 2 → IVec S16 32) a x).toNat < S416x85.size a := fun v249 v264 k0_hw17 => k0_hw17
def k0_off21 (k0_t4 : Fin k0_t4_loop.trips) : Fin 3 → Nat :=
  let c32_i32 : BitVec 32 := 32#32
  let c0_i32_81 : BitVec 32 := 0#32
  let c1_i32_82 : BitVec 32 := 1#32
  let arg13 : BitVec 32 := Scf.iv c0_i32_81 c1_i32_82 k0_t4
  let c1_i32_307 : BitVec 32 := 1#32
  let v242 : BitVec 32 := Scalar.muli arg13 c1_i32_307
  let v243 : BitVec 32 := Scalar.addi c32_i32 v242
  let c3_i32_308 : BitVec 32 := 3#32
  let v244 : BitVec 32 := Scalar.shrui v243 c3_i32_308
  let v265 : Index := Scalar.indexCast v244
  let c7_i32 : BitVec 32 := 7#32
  let v245 : BitVec 32 := Scalar.andi v243 c7_i32
  let v266 : Index := Scalar.indexCast v245
  let c16 : Index := 16#32
  ![v265.toNat, v266.toNat, 16]

def k0_chk18 (v249 : IVec S16 32) (v279 : IVec S16 32) : Prop :=
  (∀ a x, ((![v279, v249] : Fin 2 → IVec S16 32) a x).toNat < S416x85.size a)
theorem k0_idx18_inb : ∀ (v249 : IVec S16 32) (v279 : IVec S16 32) (k0_hw18 : k0_chk18 v249 v279), ∀ a x, ((![v279, v249] : Fin 2 → IVec S16 32) a x).toNat < S416x85.size a := fun v249 v279 k0_hw18 => k0_hw18
def k0_off22 (k0_t4 : Fin k0_t4_loop.trips) : Fin 3 → Nat :=
  let c32_i32 : BitVec 32 := 32#32
  let c0_i32_81 : BitVec 32 := 0#32
  let c1_i32_82 : BitVec 32 := 1#32
  let arg13 : BitVec 32 := Scf.iv c0_i32_81 c1_i32_82 k0_t4
  let c1_i32_307 : BitVec 32 := 1#32
  let v242 : BitVec 32 := Scalar.muli arg13 c1_i32_307
  let v243 : BitVec 32 := Scalar.addi c32_i32 v242
  let c3_i32_308 : BitVec 32 := 3#32
  let v244 : BitVec 32 := Scalar.shrui v243 c3_i32_308
  let v280 : Index := Scalar.indexCast v244
  let c7_i32 : BitVec 32 := 7#32
  let v245 : BitVec 32 := Scalar.andi v243 c7_i32
  let v281 : Index := Scalar.indexCast v245
  let c32 : Index := 32#32
  ![v280.toNat, v281.toNat, 32]

def k0_chk19 (v249 : IVec S16 32) (v294 : IVec S16 32) : Prop :=
  (∀ a x, ((![v294, v249] : Fin 2 → IVec S16 32) a x).toNat < S416x85.size a)
theorem k0_idx19_inb : ∀ (v249 : IVec S16 32) (v294 : IVec S16 32) (k0_hw19 : k0_chk19 v249 v294), ∀ a x, ((![v294, v249] : Fin 2 → IVec S16 32) a x).toNat < S416x85.size a := fun v249 v294 k0_hw19 => k0_hw19
def k0_off23 (k0_t4 : Fin k0_t4_loop.trips) : Fin 3 → Nat :=
  let c32_i32 : BitVec 32 := 32#32
  let c0_i32_81 : BitVec 32 := 0#32
  let c1_i32_82 : BitVec 32 := 1#32
  let arg13 : BitVec 32 := Scf.iv c0_i32_81 c1_i32_82 k0_t4
  let c1_i32_307 : BitVec 32 := 1#32
  let v242 : BitVec 32 := Scalar.muli arg13 c1_i32_307
  let v243 : BitVec 32 := Scalar.addi c32_i32 v242
  let c3_i32_308 : BitVec 32 := 3#32
  let v244 : BitVec 32 := Scalar.shrui v243 c3_i32_308
  let v295 : Index := Scalar.indexCast v244
  let c7_i32 : BitVec 32 := 7#32
  let v245 : BitVec 32 := Scalar.andi v243 c7_i32
  let v296 : Index := Scalar.indexCast v245
  let c36 : Index := 36#32
  ![v295.toNat, v296.toNat, 36]

def k0_chk20 (v249 : IVec S16 32) (v309 : IVec S16 32) : Prop :=
  (∀ a x, ((![v309, v249] : Fin 2 → IVec S16 32) a x).toNat < S416x85.size a)
theorem k0_idx20_inb : ∀ (v249 : IVec S16 32) (v309 : IVec S16 32) (k0_hw20 : k0_chk20 v249 v309), ∀ a x, ((![v309, v249] : Fin 2 → IVec S16 32) a x).toNat < S416x85.size a := fun v249 v309 k0_hw20 => k0_hw20
@[reducible] def k0_t5_loop : Scf.Loop 32 :=
  let c0_i32_104 : BitVec 32 := 0#32
  let c136_i32 : BitVec 32 := 136#32
  let v88 : BitVec 32 := Scalar.addi c0_i32_104 c136_i32
  let c1_i32_105 : BitVec 32 := 1#32
  ⟨c0_i32_104, v88, c1_i32_105⟩
def k0_off24 (k0_t5 : Fin k0_t5_loop.trips) : Fin 3 → Nat :=
  let c0_i32_308 : BitVec 32 := 0#32
  let c0_i32_104 : BitVec 32 := 0#32
  let c1_i32_105 : BitVec 32 := 1#32
  let arg13 : BitVec 32 := Scf.iv c0_i32_104 c1_i32_105 k0_t5
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v250 : Index := Scalar.indexCast v244
  let c7_i32 : BitVec 32 := 7#32
  let v245 : BitVec 32 := Scalar.andi v243 c7_i32
  let v251 : Index := Scalar.indexCast v245
  let c0 : Index := 0#32
  ![v250.toNat, v251.toNat, 0]

def k0_chk21 (v249 : IVec S16 32) (v264 : IVec S16 32) : Prop :=
  (∀ a x, ((![v264, v249] : Fin 2 → IVec S16 32) a x).toNat < S416x85.size a)
theorem k0_idx21_inb : ∀ (v249 : IVec S16 32) (v264 : IVec S16 32) (k0_hw21 : k0_chk21 v249 v264), ∀ a x, ((![v264, v249] : Fin 2 → IVec S16 32) a x).toNat < S416x85.size a := fun v249 v264 k0_hw21 => k0_hw21
def k0_off25 (k0_t5 : Fin k0_t5_loop.trips) : Fin 3 → Nat :=
  let c0_i32_308 : BitVec 32 := 0#32
  let c0_i32_104 : BitVec 32 := 0#32
  let c1_i32_105 : BitVec 32 := 1#32
  let arg13 : BitVec 32 := Scf.iv c0_i32_104 c1_i32_105 k0_t5
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v265 : Index := Scalar.indexCast v244
  let c7_i32 : BitVec 32 := 7#32
  let v245 : BitVec 32 := Scalar.andi v243 c7_i32
  let v266 : Index := Scalar.indexCast v245
  let c16 : Index := 16#32
  ![v265.toNat, v266.toNat, 16]

def k0_chk22 (v249 : IVec S16 32) (v279 : IVec S16 32) : Prop :=
  (∀ a x, ((![v279, v249] : Fin 2 → IVec S16 32) a x).toNat < S416x85.size a)
theorem k0_idx22_inb : ∀ (v249 : IVec S16 32) (v279 : IVec S16 32) (k0_hw22 : k0_chk22 v249 v279), ∀ a x, ((![v279, v249] : Fin 2 → IVec S16 32) a x).toNat < S416x85.size a := fun v249 v279 k0_hw22 => k0_hw22
def k0_off26 (k0_t5 : Fin k0_t5_loop.trips) : Fin 3 → Nat :=
  let c0_i32_308 : BitVec 32 := 0#32
  let c0_i32_104 : BitVec 32 := 0#32
  let c1_i32_105 : BitVec 32 := 1#32
  let arg13 : BitVec 32 := Scf.iv c0_i32_104 c1_i32_105 k0_t5
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v280 : Index := Scalar.indexCast v244
  let c7_i32 : BitVec 32 := 7#32
  let v245 : BitVec 32 := Scalar.andi v243 c7_i32
  let v281 : Index := Scalar.indexCast v245
  let c32 : Index := 32#32
  ![v280.toNat, v281.toNat, 32]

def k0_chk23 (v249 : IVec S16 32) (v294 : IVec S16 32) : Prop :=
  (∀ a x, ((![v294, v249] : Fin 2 → IVec S16 32) a x).toNat < S416x85.size a)
theorem k0_idx23_inb : ∀ (v249 : IVec S16 32) (v294 : IVec S16 32) (k0_hw23 : k0_chk23 v249 v294), ∀ a x, ((![v294, v249] : Fin 2 → IVec S16 32) a x).toNat < S416x85.size a := fun v249 v294 k0_hw23 => k0_hw23
def k0_off27 (k0_t5 : Fin k0_t5_loop.trips) : Fin 3 → Nat :=
  let c0_i32_308 : BitVec 32 := 0#32
  let c0_i32_104 : BitVec 32 := 0#32
  let c1_i32_105 : BitVec 32 := 1#32
  let arg13 : BitVec 32 := Scf.iv c0_i32_104 c1_i32_105 k0_t5
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v295 : Index := Scalar.indexCast v244
  let c7_i32 : BitVec 32 := 7#32
  let v245 : BitVec 32 := Scalar.andi v243 c7_i32
  let v296 : Index := Scalar.indexCast v245
  let c36 : Index := 36#32
  ![v295.toNat, v296.toNat, 36]

def k0_chk24 (v249 : IVec S16 32) (v309 : IVec S16 32) : Prop :=
  (∀ a x, ((![v309, v249] : Fin 2 → IVec S16 32) a x).toNat < S416x85.size a)
theorem k0_idx24_inb : ∀ (v249 : IVec S16 32) (v309 : IVec S16 32) (k0_hw24 : k0_chk24 v249 v309), ∀ a x, ((![v309, v249] : Fin 2 → IVec S16 32) a x).toNat < S416x85.size a := fun v249 v309 k0_hw24 => k0_hw24
@[reducible] def k0_t6_loop : Scf.Loop 32 :=
  let c0_i32_127 : BitVec 32 := 0#32
  let c136_i32_128 : BitVec 32 := 136#32
  let v105 : BitVec 32 := Scalar.addi c0_i32_127 c136_i32_128
  let c1_i32_129 : BitVec 32 := 1#32
  ⟨c0_i32_127, v105, c1_i32_129⟩
def k0_off28 (k0_t6 : Fin k0_t6_loop.trips) : Fin 3 → Nat :=
  let c0_i32_308 : BitVec 32 := 0#32
  let c0_i32_127 : BitVec 32 := 0#32
  let c1_i32_129 : BitVec 32 := 1#32
  let arg13 : BitVec 32 := Scf.iv c0_i32_127 c1_i32_129 k0_t6
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v250 : Index := Scalar.indexCast v244
  let c7_i32 : BitVec 32 := 7#32
  let v245 : BitVec 32 := Scalar.andi v243 c7_i32
  let v251 : Index := Scalar.indexCast v245
  let c0 : Index := 0#32
  ![v250.toNat, v251.toNat, 0]

def k0_chk25 (v249 : IVec S16 32) (v264 : IVec S16 32) : Prop :=
  (∀ a x, ((![v264, v249] : Fin 2 → IVec S16 32) a x).toNat < S416x85.size a)
theorem k0_idx25_inb : ∀ (v249 : IVec S16 32) (v264 : IVec S16 32) (k0_hw25 : k0_chk25 v249 v264), ∀ a x, ((![v264, v249] : Fin 2 → IVec S16 32) a x).toNat < S416x85.size a := fun v249 v264 k0_hw25 => k0_hw25
def k0_off29 (k0_t6 : Fin k0_t6_loop.trips) : Fin 3 → Nat :=
  let c0_i32_308 : BitVec 32 := 0#32
  let c0_i32_127 : BitVec 32 := 0#32
  let c1_i32_129 : BitVec 32 := 1#32
  let arg13 : BitVec 32 := Scf.iv c0_i32_127 c1_i32_129 k0_t6
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v265 : Index := Scalar.indexCast v244
  let c7_i32 : BitVec 32 := 7#32
  let v245 : BitVec 32 := Scalar.andi v243 c7_i32
  let v266 : Index := Scalar.indexCast v245
  let c16 : Index := 16#32
  ![v265.toNat, v266.toNat, 16]

def k0_chk26 (v249 : IVec S16 32) (v279 : IVec S16 32) : Prop :=
  (∀ a x, ((![v279, v249] : Fin 2 → IVec S16 32) a x).toNat < S416x85.size a)
theorem k0_idx26_inb : ∀ (v249 : IVec S16 32) (v279 : IVec S16 32) (k0_hw26 : k0_chk26 v249 v279), ∀ a x, ((![v279, v249] : Fin 2 → IVec S16 32) a x).toNat < S416x85.size a := fun v249 v279 k0_hw26 => k0_hw26
def k0_off30 (k0_t6 : Fin k0_t6_loop.trips) : Fin 3 → Nat :=
  let c0_i32_308 : BitVec 32 := 0#32
  let c0_i32_127 : BitVec 32 := 0#32
  let c1_i32_129 : BitVec 32 := 1#32
  let arg13 : BitVec 32 := Scf.iv c0_i32_127 c1_i32_129 k0_t6
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v280 : Index := Scalar.indexCast v244
  let c7_i32 : BitVec 32 := 7#32
  let v245 : BitVec 32 := Scalar.andi v243 c7_i32
  let v281 : Index := Scalar.indexCast v245
  let c32 : Index := 32#32
  ![v280.toNat, v281.toNat, 32]

def k0_chk27 (v249 : IVec S16 32) (v294 : IVec S16 32) : Prop :=
  (∀ a x, ((![v294, v249] : Fin 2 → IVec S16 32) a x).toNat < S416x85.size a)
theorem k0_idx27_inb : ∀ (v249 : IVec S16 32) (v294 : IVec S16 32) (k0_hw27 : k0_chk27 v249 v294), ∀ a x, ((![v294, v249] : Fin 2 → IVec S16 32) a x).toNat < S416x85.size a := fun v249 v294 k0_hw27 => k0_hw27
def k0_off31 (k0_t6 : Fin k0_t6_loop.trips) : Fin 3 → Nat :=
  let c0_i32_308 : BitVec 32 := 0#32
  let c0_i32_127 : BitVec 32 := 0#32
  let c1_i32_129 : BitVec 32 := 1#32
  let arg13 : BitVec 32 := Scf.iv c0_i32_127 c1_i32_129 k0_t6
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v295 : Index := Scalar.indexCast v244
  let c7_i32 : BitVec 32 := 7#32
  let v245 : BitVec 32 := Scalar.andi v243 c7_i32
  let v296 : Index := Scalar.indexCast v245
  let c36 : Index := 36#32
  ![v295.toNat, v296.toNat, 36]

def k0_chk28 (v249 : IVec S16 32) (v309 : IVec S16 32) : Prop :=
  (∀ a x, ((![v309, v249] : Fin 2 → IVec S16 32) a x).toNat < S416x85.size a)
theorem k0_idx28_inb : ∀ (v249 : IVec S16 32) (v309 : IVec S16 32) (k0_hw28 : k0_chk28 v249 v309), ∀ a x, ((![v309, v249] : Fin 2 → IVec S16 32) a x).toNat < S416x85.size a := fun v249 v309 k0_hw28 => k0_hw28
@[reducible] def k0_t7_loop : Scf.Loop 32 :=
  let c0_i32_151 : BitVec 32 := 0#32
  let c136_i32_152 : BitVec 32 := 136#32
  let v122 : BitVec 32 := Scalar.addi c0_i32_151 c136_i32_152
  let c1_i32_153 : BitVec 32 := 1#32
  ⟨c0_i32_151, v122, c1_i32_153⟩
def k0_off32 (k0_t7 : Fin k0_t7_loop.trips) : Fin 3 → Nat :=
  let c0_i32_308 : BitVec 32 := 0#32
  let c0_i32_151 : BitVec 32 := 0#32
  let c1_i32_153 : BitVec 32 := 1#32
  let arg13 : BitVec 32 := Scf.iv c0_i32_151 c1_i32_153 k0_t7
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v250 : Index := Scalar.indexCast v244
  let c7_i32 : BitVec 32 := 7#32
  let v245 : BitVec 32 := Scalar.andi v243 c7_i32
  let v251 : Index := Scalar.indexCast v245
  let c0 : Index := 0#32
  ![v250.toNat, v251.toNat, 0]

def k0_chk29 (v249 : IVec S16 32) (v264 : IVec S16 32) : Prop :=
  (∀ a x, ((![v264, v249] : Fin 2 → IVec S16 32) a x).toNat < S416x85.size a)
theorem k0_idx29_inb : ∀ (v249 : IVec S16 32) (v264 : IVec S16 32) (k0_hw29 : k0_chk29 v249 v264), ∀ a x, ((![v264, v249] : Fin 2 → IVec S16 32) a x).toNat < S416x85.size a := fun v249 v264 k0_hw29 => k0_hw29
def k0_off33 (k0_t7 : Fin k0_t7_loop.trips) : Fin 3 → Nat :=
  let c0_i32_308 : BitVec 32 := 0#32
  let c0_i32_151 : BitVec 32 := 0#32
  let c1_i32_153 : BitVec 32 := 1#32
  let arg13 : BitVec 32 := Scf.iv c0_i32_151 c1_i32_153 k0_t7
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v265 : Index := Scalar.indexCast v244
  let c7_i32 : BitVec 32 := 7#32
  let v245 : BitVec 32 := Scalar.andi v243 c7_i32
  let v266 : Index := Scalar.indexCast v245
  let c16 : Index := 16#32
  ![v265.toNat, v266.toNat, 16]

def k0_chk30 (v249 : IVec S16 32) (v279 : IVec S16 32) : Prop :=
  (∀ a x, ((![v279, v249] : Fin 2 → IVec S16 32) a x).toNat < S416x85.size a)
theorem k0_idx30_inb : ∀ (v249 : IVec S16 32) (v279 : IVec S16 32) (k0_hw30 : k0_chk30 v249 v279), ∀ a x, ((![v279, v249] : Fin 2 → IVec S16 32) a x).toNat < S416x85.size a := fun v249 v279 k0_hw30 => k0_hw30
def k0_off34 (k0_t7 : Fin k0_t7_loop.trips) : Fin 3 → Nat :=
  let c0_i32_308 : BitVec 32 := 0#32
  let c0_i32_151 : BitVec 32 := 0#32
  let c1_i32_153 : BitVec 32 := 1#32
  let arg13 : BitVec 32 := Scf.iv c0_i32_151 c1_i32_153 k0_t7
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v280 : Index := Scalar.indexCast v244
  let c7_i32 : BitVec 32 := 7#32
  let v245 : BitVec 32 := Scalar.andi v243 c7_i32
  let v281 : Index := Scalar.indexCast v245
  let c32 : Index := 32#32
  ![v280.toNat, v281.toNat, 32]

def k0_chk31 (v249 : IVec S16 32) (v294 : IVec S16 32) : Prop :=
  (∀ a x, ((![v294, v249] : Fin 2 → IVec S16 32) a x).toNat < S416x85.size a)
theorem k0_idx31_inb : ∀ (v249 : IVec S16 32) (v294 : IVec S16 32) (k0_hw31 : k0_chk31 v249 v294), ∀ a x, ((![v294, v249] : Fin 2 → IVec S16 32) a x).toNat < S416x85.size a := fun v249 v294 k0_hw31 => k0_hw31
def k0_off35 (k0_t7 : Fin k0_t7_loop.trips) : Fin 3 → Nat :=
  let c0_i32_308 : BitVec 32 := 0#32
  let c0_i32_151 : BitVec 32 := 0#32
  let c1_i32_153 : BitVec 32 := 1#32
  let arg13 : BitVec 32 := Scf.iv c0_i32_151 c1_i32_153 k0_t7
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v295 : Index := Scalar.indexCast v244
  let c7_i32 : BitVec 32 := 7#32
  let v245 : BitVec 32 := Scalar.andi v243 c7_i32
  let v296 : Index := Scalar.indexCast v245
  let c36 : Index := 36#32
  ![v295.toNat, v296.toNat, 36]

def k0_chk32 (v249 : IVec S16 32) (v309 : IVec S16 32) : Prop :=
  (∀ a x, ((![v309, v249] : Fin 2 → IVec S16 32) a x).toNat < S416x85.size a)
theorem k0_idx32_inb : ∀ (v249 : IVec S16 32) (v309 : IVec S16 32) (k0_hw32 : k0_chk32 v249 v309), ∀ a x, ((![v309, v249] : Fin 2 → IVec S16 32) a x).toNat < S416x85.size a := fun v249 v309 k0_hw32 => k0_hw32
def k0_off36 (i : grid0.Coords) (k0_t1 : Fin k0_t1_loop.trips) (k0_t2 : Fin k0_t2_loop.trips) (c0_i32_166 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c85_i32_165 : BitVec 32 := 85#32
  let v131 : BitVec 32 := Scalar.muli arg11 c85_i32_165
  let v132 : BitVec 32 := Scalar.addi v131 c0_i32_166
  let c0_i32_19 : BitVec 32 := 0#32
  let c1_i32_21 : BitVec 32 := 1#32
  let arg12 : BitVec 32 := Scf.iv c0_i32_19 c1_i32_21 k0_t2
  let c16_i32_54 : BitVec 32 := 16#32
  let v48 : BitVec 32 := Scalar.muli arg12 c16_i32_54
  let c8_i32 : BitVec 32 := 8#32
  let v49 : BitVec 32 := Scalar.addi v48 c8_i32
  let v50 : BitVec 32 := v49
  let c0_i32_170 : BitVec 32 := 0#32
  ![v1.toNat, v132.toNat, v50.toNat, 0]
@[reducible] def k0_t8_loop : Scf.Loop 32 :=
  let c0_i32_175 : BitVec 32 := 0#32
  let c136_i32_176 : BitVec 32 := 136#32
  let v139 : BitVec 32 := Scalar.addi c0_i32_175 c136_i32_176
  let c1_i32_177 : BitVec 32 := 1#32
  ⟨c0_i32_175, v139, c1_i32_177⟩
def k0_off37 (k0_t8 : Fin k0_t8_loop.trips) : Fin 3 → Nat :=
  let c0_i32_308 : BitVec 32 := 0#32
  let c0_i32_175 : BitVec 32 := 0#32
  let c1_i32_177 : BitVec 32 := 1#32
  let arg13 : BitVec 32 := Scf.iv c0_i32_175 c1_i32_177 k0_t8
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v250 : Index := Scalar.indexCast v244
  let c7_i32 : BitVec 32 := 7#32
  let v245 : BitVec 32 := Scalar.andi v243 c7_i32
  let v251 : Index := Scalar.indexCast v245
  let c0 : Index := 0#32
  ![v250.toNat, v251.toNat, 0]

def k0_chk33 (v249 : IVec S16 32) (v264 : IVec S16 32) : Prop :=
  (∀ a x, ((![v264, v249] : Fin 2 → IVec S16 32) a x).toNat < S416x85.size a)
theorem k0_idx33_inb : ∀ (v249 : IVec S16 32) (v264 : IVec S16 32) (k0_hw33 : k0_chk33 v249 v264), ∀ a x, ((![v264, v249] : Fin 2 → IVec S16 32) a x).toNat < S416x85.size a := fun v249 v264 k0_hw33 => k0_hw33
def k0_off38 (k0_t8 : Fin k0_t8_loop.trips) : Fin 3 → Nat :=
  let c0_i32_308 : BitVec 32 := 0#32
  let c0_i32_175 : BitVec 32 := 0#32
  let c1_i32_177 : BitVec 32 := 1#32
  let arg13 : BitVec 32 := Scf.iv c0_i32_175 c1_i32_177 k0_t8
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v265 : Index := Scalar.indexCast v244
  let c7_i32 : BitVec 32 := 7#32
  let v245 : BitVec 32 := Scalar.andi v243 c7_i32
  let v266 : Index := Scalar.indexCast v245
  let c16 : Index := 16#32
  ![v265.toNat, v266.toNat, 16]

def k0_chk34 (v249 : IVec S16 32) (v279 : IVec S16 32) : Prop :=
  (∀ a x, ((![v279, v249] : Fin 2 → IVec S16 32) a x).toNat < S416x85.size a)
theorem k0_idx34_inb : ∀ (v249 : IVec S16 32) (v279 : IVec S16 32) (k0_hw34 : k0_chk34 v249 v279), ∀ a x, ((![v279, v249] : Fin 2 → IVec S16 32) a x).toNat < S416x85.size a := fun v249 v279 k0_hw34 => k0_hw34
def k0_off39 (k0_t8 : Fin k0_t8_loop.trips) : Fin 3 → Nat :=
  let c0_i32_308 : BitVec 32 := 0#32
  let c0_i32_175 : BitVec 32 := 0#32
  let c1_i32_177 : BitVec 32 := 1#32
  let arg13 : BitVec 32 := Scf.iv c0_i32_175 c1_i32_177 k0_t8
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v280 : Index := Scalar.indexCast v244
  let c7_i32 : BitVec 32 := 7#32
  let v245 : BitVec 32 := Scalar.andi v243 c7_i32
  let v281 : Index := Scalar.indexCast v245
  let c32 : Index := 32#32
  ![v280.toNat, v281.toNat, 32]

def k0_chk35 (v249 : IVec S16 32) (v294 : IVec S16 32) : Prop :=
  (∀ a x, ((![v294, v249] : Fin 2 → IVec S16 32) a x).toNat < S416x85.size a)
theorem k0_idx35_inb : ∀ (v249 : IVec S16 32) (v294 : IVec S16 32) (k0_hw35 : k0_chk35 v249 v294), ∀ a x, ((![v294, v249] : Fin 2 → IVec S16 32) a x).toNat < S416x85.size a := fun v249 v294 k0_hw35 => k0_hw35
def k0_off40 (k0_t8 : Fin k0_t8_loop.trips) : Fin 3 → Nat :=
  let c0_i32_308 : BitVec 32 := 0#32
  let c0_i32_175 : BitVec 32 := 0#32
  let c1_i32_177 : BitVec 32 := 1#32
  let arg13 : BitVec 32 := Scf.iv c0_i32_175 c1_i32_177 k0_t8
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v295 : Index := Scalar.indexCast v244
  let c7_i32 : BitVec 32 := 7#32
  let v245 : BitVec 32 := Scalar.andi v243 c7_i32
  let v296 : Index := Scalar.indexCast v245
  let c36 : Index := 36#32
  ![v295.toNat, v296.toNat, 36]

def k0_chk36 (v249 : IVec S16 32) (v309 : IVec S16 32) : Prop :=
  (∀ a x, ((![v309, v249] : Fin 2 → IVec S16 32) a x).toNat < S416x85.size a)
theorem k0_idx36_inb : ∀ (v249 : IVec S16 32) (v309 : IVec S16 32) (k0_hw36 : k0_chk36 v249 v309), ∀ a x, ((![v309, v249] : Fin 2 → IVec S16 32) a x).toNat < S416x85.size a := fun v249 v309 k0_hw36 => k0_hw36
def k0_off41 (i : grid0.Coords) (k0_t1 : Fin k0_t1_loop.trips) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c2704_i32_179 : BitVec 32 := 2704#32
  let v140 : BitVec 32 := Scalar.muli arg11 c2704_i32_179
  let c0_i32_19 : BitVec 32 := 0#32
  let c1_i32_21 : BitVec 32 := 1#32
  let arg12 : BitVec 32 := Scf.iv c0_i32_19 c1_i32_21 k0_t2
  let c16_i32 : BitVec 32 := 16#32
  let v46 : BitVec 32 := Scalar.muli arg12 c16_i32
  let v47 : BitVec 32 := v46
  let c52_i32_180 : BitVec 32 := 52#32
  let v141 : BitVec 32 := Scalar.muli v47 c52_i32_180
  let v142 : BitVec 32 := Scalar.addi v140 v141
  let c0_i32_181 : BitVec 32 := 0#32
  ![v1.toNat, v142.toNat, 0]
@[reducible] def k0_t9_loop : Scf.Loop 32 :=
  let c0_i32_207 : BitVec 32 := 0#32
  let c8_i32_208 : BitVec 32 := 8#32
  let v170 : BitVec 32 := Scalar.addi c0_i32_207 c8_i32_208
  let c1_i32_209 : BitVec 32 := 1#32
  ⟨c0_i32_207, v170, c1_i32_209⟩
def k0_off42 (k0_t9 : Fin k0_t9_loop.trips) : Fin 3 → Nat :=
  let c0_i32_312 : BitVec 32 := 0#32
  let v254 : Index := Scalar.indexCast c0_i32_312
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v255 : Index := Scalar.indexCast v243
  let c0 : Index := 0#32
  ![0, v255.toNat, 0]
def k0_off43 (k0_t9 : Fin k0_t9_loop.trips) : Fin 3 → Nat :=
  let c1_i32_317 : BitVec 32 := 1#32
  let v267 : Index := Scalar.indexCast c1_i32_317
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v268 : Index := Scalar.indexCast v243
  let c0_318 : Index := 0#32
  ![1, v268.toNat, 0]
def k0_off44 (k0_t9 : Fin k0_t9_loop.trips) : Fin 3 → Nat :=
  let c2_i32_323 : BitVec 32 := 2#32
  let v281 : Index := Scalar.indexCast c2_i32_323
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v282 : Index := Scalar.indexCast v243
  let c0_324 : Index := 0#32
  ![2, v282.toNat, 0]
def k0_off45 (k0_t9 : Fin k0_t9_loop.trips) : Fin 3 → Nat :=
  let c3_i32_326 : BitVec 32 := 3#32
  let v289 : Index := Scalar.indexCast c3_i32_326
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v290 : Index := Scalar.indexCast v243
  let c0_327 : Index := 0#32
  ![3, v290.toNat, 0]

def k0_chk37 (v250 : IVec S16 32) (v297 : IVec S16 32) : Prop :=
  (∀ a x, ((![v250, v297] : Fin 2 → IVec S16 32) a x).toNat < S416x85.size a)
theorem k0_idx37_inb : ∀ (v250 : IVec S16 32) (v297 : IVec S16 32) (k0_hw37 : k0_chk37 v250 v297), ∀ a x, ((![v250, v297] : Fin 2 → IVec S16 32) a x).toNat < S416x85.size a := fun v250 v297 k0_hw37 => k0_hw37

def k0_chk38 (v250 : IVec S16 32) (v298 : IVec S16 32) : Prop :=
  (∀ a x, ((![v250, v298] : Fin 2 → IVec S16 32) a x).toNat < S416x85.size a)
theorem k0_idx38_inb : ∀ (v250 : IVec S16 32) (v298 : IVec S16 32) (k0_hw38 : k0_chk38 v250 v298), ∀ a x, ((![v250, v298] : Fin 2 → IVec S16 32) a x).toNat < S416x85.size a := fun v250 v298 k0_hw38 => k0_hw38

def k0_chk39 (v250 : IVec S16 32) (v299 : IVec S16 32) : Prop :=
  (∀ a x, ((![v250, v299] : Fin 2 → IVec S16 32) a x).toNat < S416x85.size a)
theorem k0_idx39_inb : ∀ (v250 : IVec S16 32) (v299 : IVec S16 32) (k0_hw39 : k0_chk39 v250 v299), ∀ a x, ((![v250, v299] : Fin 2 → IVec S16 32) a x).toNat < S416x85.size a := fun v250 v299 k0_hw39 => k0_hw39

def k0_chk40 (v250 : IVec S16 32) (v300 : IVec S16 32) : Prop :=
  (∀ a x, ((![v250, v300] : Fin 2 → IVec S16 32) a x).toNat < S416x85.size a)
theorem k0_idx40_inb : ∀ (v250 : IVec S16 32) (v300 : IVec S16 32) (k0_hw40 : k0_chk40 v250 v300), ∀ a x, ((![v250, v300] : Fin 2 → IVec S16 32) a x).toNat < S416x85.size a := fun v250 v300 k0_hw40 => k0_hw40
def k0_off46 (k0_t9 : Fin k0_t9_loop.trips) : Fin 3 → Nat :=
  let c0_i32_336 : BitVec 32 := 0#32
  let v309 : Index := Scalar.indexCast c0_i32_336
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v310 : Index := Scalar.indexCast v243
  let c16 : Index := 16#32
  ![0, v310.toNat, 16]
def k0_off47 (k0_t9 : Fin k0_t9_loop.trips) : Fin 3 → Nat :=
  let c1_i32_341 : BitVec 32 := 1#32
  let v322 : Index := Scalar.indexCast c1_i32_341
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v323 : Index := Scalar.indexCast v243
  let c16_342 : Index := 16#32
  ![1, v323.toNat, 16]
def k0_off48 (k0_t9 : Fin k0_t9_loop.trips) : Fin 3 → Nat :=
  let c2_i32_347 : BitVec 32 := 2#32
  let v336 : Index := Scalar.indexCast c2_i32_347
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v337 : Index := Scalar.indexCast v243
  let c16_348 : Index := 16#32
  ![2, v337.toNat, 16]
def k0_off49 (k0_t9 : Fin k0_t9_loop.trips) : Fin 3 → Nat :=
  let c3_i32_350 : BitVec 32 := 3#32
  let v344 : Index := Scalar.indexCast c3_i32_350
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v345 : Index := Scalar.indexCast v243
  let c16_351 : Index := 16#32
  ![3, v345.toNat, 16]

def k0_chk41 (v305 : IVec S16 32) (v352 : IVec S16 32) : Prop :=
  (∀ a x, ((![v305, v352] : Fin 2 → IVec S16 32) a x).toNat < S416x85.size a)
theorem k0_idx41_inb : ∀ (v305 : IVec S16 32) (v352 : IVec S16 32) (k0_hw41 : k0_chk41 v305 v352), ∀ a x, ((![v305, v352] : Fin 2 → IVec S16 32) a x).toNat < S416x85.size a := fun v305 v352 k0_hw41 => k0_hw41

def k0_chk42 (v305 : IVec S16 32) (v353 : IVec S16 32) : Prop :=
  (∀ a x, ((![v305, v353] : Fin 2 → IVec S16 32) a x).toNat < S416x85.size a)
theorem k0_idx42_inb : ∀ (v305 : IVec S16 32) (v353 : IVec S16 32) (k0_hw42 : k0_chk42 v305 v353), ∀ a x, ((![v305, v353] : Fin 2 → IVec S16 32) a x).toNat < S416x85.size a := fun v305 v353 k0_hw42 => k0_hw42

def k0_chk43 (v305 : IVec S16 32) (v354 : IVec S16 32) : Prop :=
  (∀ a x, ((![v305, v354] : Fin 2 → IVec S16 32) a x).toNat < S416x85.size a)
theorem k0_idx43_inb : ∀ (v305 : IVec S16 32) (v354 : IVec S16 32) (k0_hw43 : k0_chk43 v305 v354), ∀ a x, ((![v305, v354] : Fin 2 → IVec S16 32) a x).toNat < S416x85.size a := fun v305 v354 k0_hw43 => k0_hw43

def k0_chk44 (v305 : IVec S16 32) (v355 : IVec S16 32) : Prop :=
  (∀ a x, ((![v305, v355] : Fin 2 → IVec S16 32) a x).toNat < S416x85.size a)
theorem k0_idx44_inb : ∀ (v305 : IVec S16 32) (v355 : IVec S16 32) (k0_hw44 : k0_chk44 v305 v355), ∀ a x, ((![v305, v355] : Fin 2 → IVec S16 32) a x).toNat < S416x85.size a := fun v305 v355 k0_hw44 => k0_hw44
def k0_off50 (k0_t9 : Fin k0_t9_loop.trips) : Fin 3 → Nat :=
  let c0_i32_359 : BitVec 32 := 0#32
  let v364 : Index := Scalar.indexCast c0_i32_359
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v365 : Index := Scalar.indexCast v243
  let c32 : Index := 32#32
  ![0, v365.toNat, 32]
def k0_off51 (k0_t9 : Fin k0_t9_loop.trips) : Fin 3 → Nat :=
  let c1_i32_364 : BitVec 32 := 1#32
  let v377 : Index := Scalar.indexCast c1_i32_364
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v378 : Index := Scalar.indexCast v243
  let c32_365 : Index := 32#32
  ![1, v378.toNat, 32]
def k0_off52 (k0_t9 : Fin k0_t9_loop.trips) : Fin 3 → Nat :=
  let c2_i32_370 : BitVec 32 := 2#32
  let v391 : Index := Scalar.indexCast c2_i32_370
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v392 : Index := Scalar.indexCast v243
  let c32_371 : Index := 32#32
  ![2, v392.toNat, 32]
def k0_off53 (k0_t9 : Fin k0_t9_loop.trips) : Fin 3 → Nat :=
  let c3_i32_373 : BitVec 32 := 3#32
  let v399 : Index := Scalar.indexCast c3_i32_373
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v400 : Index := Scalar.indexCast v243
  let c32_374 : Index := 32#32
  ![3, v400.toNat, 32]

def k0_chk45 (v360 : IVec S16 32) (v407 : IVec S16 32) : Prop :=
  (∀ a x, ((![v360, v407] : Fin 2 → IVec S16 32) a x).toNat < S416x85.size a)
theorem k0_idx45_inb : ∀ (v360 : IVec S16 32) (v407 : IVec S16 32) (k0_hw45 : k0_chk45 v360 v407), ∀ a x, ((![v360, v407] : Fin 2 → IVec S16 32) a x).toNat < S416x85.size a := fun v360 v407 k0_hw45 => k0_hw45

def k0_chk46 (v360 : IVec S16 32) (v408 : IVec S16 32) : Prop :=
  (∀ a x, ((![v360, v408] : Fin 2 → IVec S16 32) a x).toNat < S416x85.size a)
theorem k0_idx46_inb : ∀ (v360 : IVec S16 32) (v408 : IVec S16 32) (k0_hw46 : k0_chk46 v360 v408), ∀ a x, ((![v360, v408] : Fin 2 → IVec S16 32) a x).toNat < S416x85.size a := fun v360 v408 k0_hw46 => k0_hw46

def k0_chk47 (v360 : IVec S16 32) (v409 : IVec S16 32) : Prop :=
  (∀ a x, ((![v360, v409] : Fin 2 → IVec S16 32) a x).toNat < S416x85.size a)
theorem k0_idx47_inb : ∀ (v360 : IVec S16 32) (v409 : IVec S16 32) (k0_hw47 : k0_chk47 v360 v409), ∀ a x, ((![v360, v409] : Fin 2 → IVec S16 32) a x).toNat < S416x85.size a := fun v360 v409 k0_hw47 => k0_hw47

def k0_chk48 (v360 : IVec S16 32) (v410 : IVec S16 32) : Prop :=
  (∀ a x, ((![v360, v410] : Fin 2 → IVec S16 32) a x).toNat < S416x85.size a)
theorem k0_idx48_inb : ∀ (v360 : IVec S16 32) (v410 : IVec S16 32) (k0_hw48 : k0_chk48 v360 v410), ∀ a x, ((![v360, v410] : Fin 2 → IVec S16 32) a x).toNat < S416x85.size a := fun v360 v410 k0_hw48 => k0_hw48
def k0_off54 (k0_t9 : Fin k0_t9_loop.trips) : Fin 3 → Nat :=
  let c0_i32_382 : BitVec 32 := 0#32
  let v419 : Index := Scalar.indexCast c0_i32_382
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v420 : Index := Scalar.indexCast v243
  let c36 : Index := 36#32
  ![0, v420.toNat, 36]
def k0_off55 (k0_t9 : Fin k0_t9_loop.trips) : Fin 3 → Nat :=
  let c1_i32_387 : BitVec 32 := 1#32
  let v432 : Index := Scalar.indexCast c1_i32_387
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v433 : Index := Scalar.indexCast v243
  let c36_388 : Index := 36#32
  ![1, v433.toNat, 36]
def k0_off56 (k0_t9 : Fin k0_t9_loop.trips) : Fin 3 → Nat :=
  let c2_i32_393 : BitVec 32 := 2#32
  let v446 : Index := Scalar.indexCast c2_i32_393
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v447 : Index := Scalar.indexCast v243
  let c36_394 : Index := 36#32
  ![2, v447.toNat, 36]
def k0_off57 (k0_t9 : Fin k0_t9_loop.trips) : Fin 3 → Nat :=
  let c3_i32_396 : BitVec 32 := 3#32
  let v454 : Index := Scalar.indexCast c3_i32_396
  let c0_i32_308 : BitVec 32 := 0#32
  let c0_i32_207 : BitVec 32 := 0#32
  let c1_i32_209 : BitVec 32 := 1#32
  let arg13 : BitVec 32 := Scf.iv c0_i32_207 c1_i32_209 k0_t9
  let c1_i32_307 : BitVec 32 := 1#32
  let v242 : BitVec 32 := Scalar.muli arg13 c1_i32_307
  let v243 : BitVec 32 := Scalar.addi c0_i32_308 v242
  let v455 : Index := Scalar.indexCast v243
  let c36_397 : Index := 36#32
  ![3, v455.toNat, 36]

def k0_chk49 (v415 : IVec S16 32) (v462 : IVec S16 32) : Prop :=
  (∀ a x, ((![v415, v462] : Fin 2 → IVec S16 32) a x).toNat < S416x85.size a)
theorem k0_idx49_inb : ∀ (v415 : IVec S16 32) (v462 : IVec S16 32) (k0_hw49 : k0_chk49 v415 v462), ∀ a x, ((![v415, v462] : Fin 2 → IVec S16 32) a x).toNat < S416x85.size a := fun v415 v462 k0_hw49 => k0_hw49

def k0_chk50 (v415 : IVec S16 32) (v463 : IVec S16 32) : Prop :=
  (∀ a x, ((![v415, v463] : Fin 2 → IVec S16 32) a x).toNat < S416x85.size a)
theorem k0_idx50_inb : ∀ (v415 : IVec S16 32) (v463 : IVec S16 32) (k0_hw50 : k0_chk50 v415 v463), ∀ a x, ((![v415, v463] : Fin 2 → IVec S16 32) a x).toNat < S416x85.size a := fun v415 v463 k0_hw50 => k0_hw50

def k0_chk51 (v415 : IVec S16 32) (v464 : IVec S16 32) : Prop :=
  (∀ a x, ((![v415, v464] : Fin 2 → IVec S16 32) a x).toNat < S416x85.size a)
theorem k0_idx51_inb : ∀ (v415 : IVec S16 32) (v464 : IVec S16 32) (k0_hw51 : k0_chk51 v415 v464), ∀ a x, ((![v415, v464] : Fin 2 → IVec S16 32) a x).toNat < S416x85.size a := fun v415 v464 k0_hw51 => k0_hw51

def k0_chk52 (v415 : IVec S16 32) (v465 : IVec S16 32) : Prop :=
  (∀ a x, ((![v415, v465] : Fin 2 → IVec S16 32) a x).toNat < S416x85.size a)
theorem k0_idx52_inb : ∀ (v415 : IVec S16 32) (v465 : IVec S16 32) (k0_hw52 : k0_chk52 v415 v465), ∀ a x, ((![v415, v465] : Fin 2 → IVec S16 32) a x).toNat < S416x85.size a := fun v415 v465 k0_hw52 => k0_hw52
@[reducible] def k0_t10_loop : Scf.Loop 32 :=
  let c0_i32_211 : BitVec 32 := 0#32
  let c104_i32_212 : BitVec 32 := 104#32
  let v171 : BitVec 32 := Scalar.addi c0_i32_211 c104_i32_212
  let c1_i32_213 : BitVec 32 := 1#32
  ⟨c0_i32_211, v171, c1_i32_213⟩
def k0_off58 (k0_t10 : Fin k0_t10_loop.trips) : Fin 3 → Nat :=
  let c32_i32 : BitVec 32 := 32#32
  let c0_i32_211 : BitVec 32 := 0#32
  let c1_i32_213 : BitVec 32 := 1#32
  let arg13 : BitVec 32 := Scf.iv c0_i32_211 c1_i32_213 k0_t10
  let c1_i32_307 : BitVec 32 := 1#32
  let v242 : BitVec 32 := Scalar.muli arg13 c1_i32_307
  let v243 : BitVec 32 := Scalar.addi c32_i32 v242
  let c3_i32_308 : BitVec 32 := 3#32
  let v244 : BitVec 32 := Scalar.shrui v243 c3_i32_308
  let v250 : Index := Scalar.indexCast v244
  let c7_i32 : BitVec 32 := 7#32
  let v245 : BitVec 32 := Scalar.andi v243 c7_i32
  let v251 : Index := Scalar.indexCast v245
  let c0 : Index := 0#32
  ![v250.toNat, v251.toNat, 0]

def k0_chk53 (v249 : IVec S16 32) (v264 : IVec S16 32) : Prop :=
  (∀ a x, ((![v264, v249] : Fin 2 → IVec S16 32) a x).toNat < S416x85.size a)
theorem k0_idx53_inb : ∀ (v249 : IVec S16 32) (v264 : IVec S16 32) (k0_hw53 : k0_chk53 v249 v264), ∀ a x, ((![v264, v249] : Fin 2 → IVec S16 32) a x).toNat < S416x85.size a := fun v249 v264 k0_hw53 => k0_hw53
def k0_off59 (k0_t10 : Fin k0_t10_loop.trips) : Fin 3 → Nat :=
  let c32_i32 : BitVec 32 := 32#32
  let c0_i32_211 : BitVec 32 := 0#32
  let c1_i32_213 : BitVec 32 := 1#32
  let arg13 : BitVec 32 := Scf.iv c0_i32_211 c1_i32_213 k0_t10
  let c1_i32_307 : BitVec 32 := 1#32
  let v242 : BitVec 32 := Scalar.muli arg13 c1_i32_307
  let v243 : BitVec 32 := Scalar.addi c32_i32 v242
  let c3_i32_308 : BitVec 32 := 3#32
  let v244 : BitVec 32 := Scalar.shrui v243 c3_i32_308
  let v265 : Index := Scalar.indexCast v244
  let c7_i32 : BitVec 32 := 7#32
  let v245 : BitVec 32 := Scalar.andi v243 c7_i32
  let v266 : Index := Scalar.indexCast v245
  let c16 : Index := 16#32
  ![v265.toNat, v266.toNat, 16]

def k0_chk54 (v249 : IVec S16 32) (v279 : IVec S16 32) : Prop :=
  (∀ a x, ((![v279, v249] : Fin 2 → IVec S16 32) a x).toNat < S416x85.size a)
theorem k0_idx54_inb : ∀ (v249 : IVec S16 32) (v279 : IVec S16 32) (k0_hw54 : k0_chk54 v249 v279), ∀ a x, ((![v279, v249] : Fin 2 → IVec S16 32) a x).toNat < S416x85.size a := fun v249 v279 k0_hw54 => k0_hw54
def k0_off60 (k0_t10 : Fin k0_t10_loop.trips) : Fin 3 → Nat :=
  let c32_i32 : BitVec 32 := 32#32
  let c0_i32_211 : BitVec 32 := 0#32
  let c1_i32_213 : BitVec 32 := 1#32
  let arg13 : BitVec 32 := Scf.iv c0_i32_211 c1_i32_213 k0_t10
  let c1_i32_307 : BitVec 32 := 1#32
  let v242 : BitVec 32 := Scalar.muli arg13 c1_i32_307
  let v243 : BitVec 32 := Scalar.addi c32_i32 v242
  let c3_i32_308 : BitVec 32 := 3#32
  let v244 : BitVec 32 := Scalar.shrui v243 c3_i32_308
  let v280 : Index := Scalar.indexCast v244
  let c7_i32 : BitVec 32 := 7#32
  let v245 : BitVec 32 := Scalar.andi v243 c7_i32
  let v281 : Index := Scalar.indexCast v245
  let c32 : Index := 32#32
  ![v280.toNat, v281.toNat, 32]

def k0_chk55 (v249 : IVec S16 32) (v294 : IVec S16 32) : Prop :=
  (∀ a x, ((![v294, v249] : Fin 2 → IVec S16 32) a x).toNat < S416x85.size a)
theorem k0_idx55_inb : ∀ (v249 : IVec S16 32) (v294 : IVec S16 32) (k0_hw55 : k0_chk55 v249 v294), ∀ a x, ((![v294, v249] : Fin 2 → IVec S16 32) a x).toNat < S416x85.size a := fun v249 v294 k0_hw55 => k0_hw55
def k0_off61 (k0_t10 : Fin k0_t10_loop.trips) : Fin 3 → Nat :=
  let c32_i32 : BitVec 32 := 32#32
  let c0_i32_211 : BitVec 32 := 0#32
  let c1_i32_213 : BitVec 32 := 1#32
  let arg13 : BitVec 32 := Scf.iv c0_i32_211 c1_i32_213 k0_t10
  let c1_i32_307 : BitVec 32 := 1#32
  let v242 : BitVec 32 := Scalar.muli arg13 c1_i32_307
  let v243 : BitVec 32 := Scalar.addi c32_i32 v242
  let c3_i32_308 : BitVec 32 := 3#32
  let v244 : BitVec 32 := Scalar.shrui v243 c3_i32_308
  let v295 : Index := Scalar.indexCast v244
  let c7_i32 : BitVec 32 := 7#32
  let v245 : BitVec 32 := Scalar.andi v243 c7_i32
  let v296 : Index := Scalar.indexCast v245
  let c36 : Index := 36#32
  ![v295.toNat, v296.toNat, 36]

def k0_chk56 (v249 : IVec S16 32) (v309 : IVec S16 32) : Prop :=
  (∀ a x, ((![v309, v249] : Fin 2 → IVec S16 32) a x).toNat < S416x85.size a)
theorem k0_idx56_inb : ∀ (v249 : IVec S16 32) (v309 : IVec S16 32) (k0_hw56 : k0_chk56 v249 v309), ∀ a x, ((![v309, v249] : Fin 2 → IVec S16 32) a x).toNat < S416x85.size a := fun v249 v309 k0_hw56 => k0_hw56
@[reducible] def k0_t11_loop : Scf.Loop 32 :=
  let c0_i32_235 : BitVec 32 := 0#32
  let c136_i32_236 : BitVec 32 := 136#32
  let v188 : BitVec 32 := Scalar.addi c0_i32_235 c136_i32_236
  let c1_i32_237 : BitVec 32 := 1#32
  ⟨c0_i32_235, v188, c1_i32_237⟩
def k0_off62 (k0_t11 : Fin k0_t11_loop.trips) : Fin 3 → Nat :=
  let c0_i32_308 : BitVec 32 := 0#32
  let c0_i32_235 : BitVec 32 := 0#32
  let c1_i32_237 : BitVec 32 := 1#32
  let arg13 : BitVec 32 := Scf.iv c0_i32_235 c1_i32_237 k0_t11
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v250 : Index := Scalar.indexCast v244
  let c7_i32 : BitVec 32 := 7#32
  let v245 : BitVec 32 := Scalar.andi v243 c7_i32
  let v251 : Index := Scalar.indexCast v245
  let c0 : Index := 0#32
  ![v250.toNat, v251.toNat, 0]

def k0_chk57 (v249 : IVec S16 32) (v264 : IVec S16 32) : Prop :=
  (∀ a x, ((![v264, v249] : Fin 2 → IVec S16 32) a x).toNat < S416x85.size a)
theorem k0_idx57_inb : ∀ (v249 : IVec S16 32) (v264 : IVec S16 32) (k0_hw57 : k0_chk57 v249 v264), ∀ a x, ((![v264, v249] : Fin 2 → IVec S16 32) a x).toNat < S416x85.size a := fun v249 v264 k0_hw57 => k0_hw57
def k0_off63 (k0_t11 : Fin k0_t11_loop.trips) : Fin 3 → Nat :=
  let c0_i32_308 : BitVec 32 := 0#32
  let c0_i32_235 : BitVec 32 := 0#32
  let c1_i32_237 : BitVec 32 := 1#32
  let arg13 : BitVec 32 := Scf.iv c0_i32_235 c1_i32_237 k0_t11
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v265 : Index := Scalar.indexCast v244
  let c7_i32 : BitVec 32 := 7#32
  let v245 : BitVec 32 := Scalar.andi v243 c7_i32
  let v266 : Index := Scalar.indexCast v245
  let c16 : Index := 16#32
  ![v265.toNat, v266.toNat, 16]

def k0_chk58 (v249 : IVec S16 32) (v279 : IVec S16 32) : Prop :=
  (∀ a x, ((![v279, v249] : Fin 2 → IVec S16 32) a x).toNat < S416x85.size a)
theorem k0_idx58_inb : ∀ (v249 : IVec S16 32) (v279 : IVec S16 32) (k0_hw58 : k0_chk58 v249 v279), ∀ a x, ((![v279, v249] : Fin 2 → IVec S16 32) a x).toNat < S416x85.size a := fun v249 v279 k0_hw58 => k0_hw58
def k0_off64 (k0_t11 : Fin k0_t11_loop.trips) : Fin 3 → Nat :=
  let c0_i32_308 : BitVec 32 := 0#32
  let c0_i32_235 : BitVec 32 := 0#32
  let c1_i32_237 : BitVec 32 := 1#32
  let arg13 : BitVec 32 := Scf.iv c0_i32_235 c1_i32_237 k0_t11
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v280 : Index := Scalar.indexCast v244
  let c7_i32 : BitVec 32 := 7#32
  let v245 : BitVec 32 := Scalar.andi v243 c7_i32
  let v281 : Index := Scalar.indexCast v245
  let c32 : Index := 32#32
  ![v280.toNat, v281.toNat, 32]

def k0_chk59 (v249 : IVec S16 32) (v294 : IVec S16 32) : Prop :=
  (∀ a x, ((![v294, v249] : Fin 2 → IVec S16 32) a x).toNat < S416x85.size a)
theorem k0_idx59_inb : ∀ (v249 : IVec S16 32) (v294 : IVec S16 32) (k0_hw59 : k0_chk59 v249 v294), ∀ a x, ((![v294, v249] : Fin 2 → IVec S16 32) a x).toNat < S416x85.size a := fun v249 v294 k0_hw59 => k0_hw59
def k0_off65 (k0_t11 : Fin k0_t11_loop.trips) : Fin 3 → Nat :=
  let c0_i32_308 : BitVec 32 := 0#32
  let c0_i32_235 : BitVec 32 := 0#32
  let c1_i32_237 : BitVec 32 := 1#32
  let arg13 : BitVec 32 := Scf.iv c0_i32_235 c1_i32_237 k0_t11
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v295 : Index := Scalar.indexCast v244
  let c7_i32 : BitVec 32 := 7#32
  let v245 : BitVec 32 := Scalar.andi v243 c7_i32
  let v296 : Index := Scalar.indexCast v245
  let c36 : Index := 36#32
  ![v295.toNat, v296.toNat, 36]

def k0_chk60 (v249 : IVec S16 32) (v309 : IVec S16 32) : Prop :=
  (∀ a x, ((![v309, v249] : Fin 2 → IVec S16 32) a x).toNat < S416x85.size a)
theorem k0_idx60_inb : ∀ (v249 : IVec S16 32) (v309 : IVec S16 32) (k0_hw60 : k0_chk60 v249 v309), ∀ a x, ((![v309, v249] : Fin 2 → IVec S16 32) a x).toNat < S416x85.size a := fun v249 v309 k0_hw60 => k0_hw60
@[reducible] def k0_t12_loop : Scf.Loop 32 :=
  let c0_i32_259 : BitVec 32 := 0#32
  let c136_i32_260 : BitVec 32 := 136#32
  let v205 : BitVec 32 := Scalar.addi c0_i32_259 c136_i32_260
  let c1_i32_261 : BitVec 32 := 1#32
  ⟨c0_i32_259, v205, c1_i32_261⟩
def k0_off66 (k0_t12 : Fin k0_t12_loop.trips) : Fin 3 → Nat :=
  let c0_i32_308 : BitVec 32 := 0#32
  let c0_i32_259 : BitVec 32 := 0#32
  let c1_i32_261 : BitVec 32 := 1#32
  let arg13 : BitVec 32 := Scf.iv c0_i32_259 c1_i32_261 k0_t12
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v250 : Index := Scalar.indexCast v244
  let c7_i32 : BitVec 32 := 7#32
  let v245 : BitVec 32 := Scalar.andi v243 c7_i32
  let v251 : Index := Scalar.indexCast v245
  let c0 : Index := 0#32
  ![v250.toNat, v251.toNat, 0]

def k0_chk61 (v249 : IVec S16 32) (v264 : IVec S16 32) : Prop :=
  (∀ a x, ((![v264, v249] : Fin 2 → IVec S16 32) a x).toNat < S416x85.size a)
theorem k0_idx61_inb : ∀ (v249 : IVec S16 32) (v264 : IVec S16 32) (k0_hw61 : k0_chk61 v249 v264), ∀ a x, ((![v264, v249] : Fin 2 → IVec S16 32) a x).toNat < S416x85.size a := fun v249 v264 k0_hw61 => k0_hw61
def k0_off67 (k0_t12 : Fin k0_t12_loop.trips) : Fin 3 → Nat :=
  let c0_i32_308 : BitVec 32 := 0#32
  let c0_i32_259 : BitVec 32 := 0#32
  let c1_i32_261 : BitVec 32 := 1#32
  let arg13 : BitVec 32 := Scf.iv c0_i32_259 c1_i32_261 k0_t12
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v265 : Index := Scalar.indexCast v244
  let c7_i32 : BitVec 32 := 7#32
  let v245 : BitVec 32 := Scalar.andi v243 c7_i32
  let v266 : Index := Scalar.indexCast v245
  let c16 : Index := 16#32
  ![v265.toNat, v266.toNat, 16]

def k0_chk62 (v249 : IVec S16 32) (v279 : IVec S16 32) : Prop :=
  (∀ a x, ((![v279, v249] : Fin 2 → IVec S16 32) a x).toNat < S416x85.size a)
theorem k0_idx62_inb : ∀ (v249 : IVec S16 32) (v279 : IVec S16 32) (k0_hw62 : k0_chk62 v249 v279), ∀ a x, ((![v279, v249] : Fin 2 → IVec S16 32) a x).toNat < S416x85.size a := fun v249 v279 k0_hw62 => k0_hw62
def k0_off68 (k0_t12 : Fin k0_t12_loop.trips) : Fin 3 → Nat :=
  let c0_i32_308 : BitVec 32 := 0#32
  let c0_i32_259 : BitVec 32 := 0#32
  let c1_i32_261 : BitVec 32 := 1#32
  let arg13 : BitVec 32 := Scf.iv c0_i32_259 c1_i32_261 k0_t12
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v280 : Index := Scalar.indexCast v244
  let c7_i32 : BitVec 32 := 7#32
  let v245 : BitVec 32 := Scalar.andi v243 c7_i32
  let v281 : Index := Scalar.indexCast v245
  let c32 : Index := 32#32
  ![v280.toNat, v281.toNat, 32]

def k0_chk63 (v249 : IVec S16 32) (v294 : IVec S16 32) : Prop :=
  (∀ a x, ((![v294, v249] : Fin 2 → IVec S16 32) a x).toNat < S416x85.size a)
theorem k0_idx63_inb : ∀ (v249 : IVec S16 32) (v294 : IVec S16 32) (k0_hw63 : k0_chk63 v249 v294), ∀ a x, ((![v294, v249] : Fin 2 → IVec S16 32) a x).toNat < S416x85.size a := fun v249 v294 k0_hw63 => k0_hw63
def k0_off69 (k0_t12 : Fin k0_t12_loop.trips) : Fin 3 → Nat :=
  let c0_i32_308 : BitVec 32 := 0#32
  let c0_i32_259 : BitVec 32 := 0#32
  let c1_i32_261 : BitVec 32 := 1#32
  let arg13 : BitVec 32 := Scf.iv c0_i32_259 c1_i32_261 k0_t12
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v295 : Index := Scalar.indexCast v244
  let c7_i32 : BitVec 32 := 7#32
  let v245 : BitVec 32 := Scalar.andi v243 c7_i32
  let v296 : Index := Scalar.indexCast v245
  let c36 : Index := 36#32
  ![v295.toNat, v296.toNat, 36]

def k0_chk64 (v249 : IVec S16 32) (v309 : IVec S16 32) : Prop :=
  (∀ a x, ((![v309, v249] : Fin 2 → IVec S16 32) a x).toNat < S416x85.size a)
theorem k0_idx64_inb : ∀ (v249 : IVec S16 32) (v309 : IVec S16 32) (k0_hw64 : k0_chk64 v249 v309), ∀ a x, ((![v309, v249] : Fin 2 → IVec S16 32) a x).toNat < S416x85.size a := fun v249 v309 k0_hw64 => k0_hw64
@[reducible] def k0_t13_loop : Scf.Loop 32 :=
  let c0_i32_283 : BitVec 32 := 0#32
  let c136_i32_284 : BitVec 32 := 136#32
  let v222 : BitVec 32 := Scalar.addi c0_i32_283 c136_i32_284
  let c1_i32_285 : BitVec 32 := 1#32
  ⟨c0_i32_283, v222, c1_i32_285⟩
def k0_off70 (k0_t13 : Fin k0_t13_loop.trips) : Fin 3 → Nat :=
  let c0_i32_308 : BitVec 32 := 0#32
  let c0_i32_283 : BitVec 32 := 0#32
  let c1_i32_285 : BitVec 32 := 1#32
  let arg13 : BitVec 32 := Scf.iv c0_i32_283 c1_i32_285 k0_t13
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v250 : Index := Scalar.indexCast v244
  let c7_i32 : BitVec 32 := 7#32
  let v245 : BitVec 32 := Scalar.andi v243 c7_i32
  let v251 : Index := Scalar.indexCast v245
  let c0 : Index := 0#32
  ![v250.toNat, v251.toNat, 0]

def k0_chk65 (v249 : IVec S16 32) (v264 : IVec S16 32) : Prop :=
  (∀ a x, ((![v264, v249] : Fin 2 → IVec S16 32) a x).toNat < S416x85.size a)
theorem k0_idx65_inb : ∀ (v249 : IVec S16 32) (v264 : IVec S16 32) (k0_hw65 : k0_chk65 v249 v264), ∀ a x, ((![v264, v249] : Fin 2 → IVec S16 32) a x).toNat < S416x85.size a := fun v249 v264 k0_hw65 => k0_hw65
def k0_off71 (k0_t13 : Fin k0_t13_loop.trips) : Fin 3 → Nat :=
  let c0_i32_308 : BitVec 32 := 0#32
  let c0_i32_283 : BitVec 32 := 0#32
  let c1_i32_285 : BitVec 32 := 1#32
  let arg13 : BitVec 32 := Scf.iv c0_i32_283 c1_i32_285 k0_t13
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v265 : Index := Scalar.indexCast v244
  let c7_i32 : BitVec 32 := 7#32
  let v245 : BitVec 32 := Scalar.andi v243 c7_i32
  let v266 : Index := Scalar.indexCast v245
  let c16 : Index := 16#32
  ![v265.toNat, v266.toNat, 16]

def k0_chk66 (v249 : IVec S16 32) (v279 : IVec S16 32) : Prop :=
  (∀ a x, ((![v279, v249] : Fin 2 → IVec S16 32) a x).toNat < S416x85.size a)
theorem k0_idx66_inb : ∀ (v249 : IVec S16 32) (v279 : IVec S16 32) (k0_hw66 : k0_chk66 v249 v279), ∀ a x, ((![v279, v249] : Fin 2 → IVec S16 32) a x).toNat < S416x85.size a := fun v249 v279 k0_hw66 => k0_hw66
def k0_off72 (k0_t13 : Fin k0_t13_loop.trips) : Fin 3 → Nat :=
  let c0_i32_308 : BitVec 32 := 0#32
  let c0_i32_283 : BitVec 32 := 0#32
  let c1_i32_285 : BitVec 32 := 1#32
  let arg13 : BitVec 32 := Scf.iv c0_i32_283 c1_i32_285 k0_t13
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v280 : Index := Scalar.indexCast v244
  let c7_i32 : BitVec 32 := 7#32
  let v245 : BitVec 32 := Scalar.andi v243 c7_i32
  let v281 : Index := Scalar.indexCast v245
  let c32 : Index := 32#32
  ![v280.toNat, v281.toNat, 32]

def k0_chk67 (v249 : IVec S16 32) (v294 : IVec S16 32) : Prop :=
  (∀ a x, ((![v294, v249] : Fin 2 → IVec S16 32) a x).toNat < S416x85.size a)
theorem k0_idx67_inb : ∀ (v249 : IVec S16 32) (v294 : IVec S16 32) (k0_hw67 : k0_chk67 v249 v294), ∀ a x, ((![v294, v249] : Fin 2 → IVec S16 32) a x).toNat < S416x85.size a := fun v249 v294 k0_hw67 => k0_hw67
def k0_off73 (k0_t13 : Fin k0_t13_loop.trips) : Fin 3 → Nat :=
  let c0_i32_308 : BitVec 32 := 0#32
  let c0_i32_283 : BitVec 32 := 0#32
  let c1_i32_285 : BitVec 32 := 1#32
  let arg13 : BitVec 32 := Scf.iv c0_i32_283 c1_i32_285 k0_t13
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v295 : Index := Scalar.indexCast v244
  let c7_i32 : BitVec 32 := 7#32
  let v245 : BitVec 32 := Scalar.andi v243 c7_i32
  let v296 : Index := Scalar.indexCast v245
  let c36 : Index := 36#32
  ![v295.toNat, v296.toNat, 36]

def k0_chk68 (v249 : IVec S16 32) (v309 : IVec S16 32) : Prop :=
  (∀ a x, ((![v309, v249] : Fin 2 → IVec S16 32) a x).toNat < S416x85.size a)
theorem k0_idx68_inb : ∀ (v249 : IVec S16 32) (v309 : IVec S16 32) (k0_hw68 : k0_chk68 v249 v309), ∀ a x, ((![v309, v249] : Fin 2 → IVec S16 32) a x).toNat < S416x85.size a := fun v249 v309 k0_hw68 => k0_hw68
def k0_cond2 (k0_t2 : Fin k0_t2_loop.trips) : BitVec 1 :=
  let c0_i32_19 : BitVec 32 := 0#32
  let c1_i32_21 : BitVec 32 := 1#32
  let arg12 : BitVec 32 := Scf.iv c0_i32_19 c1_i32_21 k0_t2
  let c2_i32_297 : BitVec 32 := 2#32
  let v231 : BitVec 1 := Scalar.cmpi .slt arg12 c2_i32_297
  let v232 : BitVec 32 := Scalar.extui v231
  let c0_i32_298 : BitVec 32 := 0#32
  let v233 : BitVec 1 := Scalar.cmpi .ne v232 c0_i32_298
  v233

def k0_off74 (i : grid0.Coords) (k0_t1 : Fin k0_t1_loop.trips) (k0_t2 : Fin k0_t2_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c85_i32_308 : BitVec 32 := 85#32
  let v243 : BitVec 32 := Scalar.muli arg11 c85_i32_308
  let c0_i32_309 : BitVec 32 := 0#32
  let v244 : BitVec 32 := Scalar.addi v243 c0_i32_309
  let c0_i32_19 : BitVec 32 := 0#32
  let c1_i32_21 : BitVec 32 := 1#32
  let arg12 : BitVec 32 := Scf.iv c0_i32_19 c1_i32_21 k0_t2
  let c16_i32_54 : BitVec 32 := 16#32
  let v48 : BitVec 32 := Scalar.muli arg12 c16_i32_54
  let c8_i32 : BitVec 32 := 8#32
  let v49 : BitVec 32 := Scalar.addi v48 c8_i32
  let v50 : BitVec 32 := v49
  let c8_i32_307 : BitVec 32 := 8#32
  let v242 : BitVec 32 := Scalar.addi v50 c8_i32_307
  let c0_i32_313 : BitVec 32 := 0#32
  ![v1.toNat, v244.toNat, v242.toNat, 0]
@[reducible] def k0_t14_loop : Scf.Loop 32 :=
  let c0_i32_299 : BitVec 32 := 0#32
  let c136_i32_300 : BitVec 32 := 136#32
  let v234 : BitVec 32 := Scalar.addi c0_i32_299 c136_i32_300
  let c1_i32_301 : BitVec 32 := 1#32
  ⟨c0_i32_299, v234, c1_i32_301⟩
def k0_off75 (k0_t14 : Fin k0_t14_loop.trips) : Fin 3 → Nat :=
  let c0_i32_308 : BitVec 32 := 0#32
  let c0_i32_299 : BitVec 32 := 0#32
  let c1_i32_301 : BitVec 32 := 1#32
  let arg13 : BitVec 32 := Scf.iv c0_i32_299 c1_i32_301 k0_t14
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v250 : Index := Scalar.indexCast v244
  let c7_i32 : BitVec 32 := 7#32
  let v245 : BitVec 32 := Scalar.andi v243 c7_i32
  let v251 : Index := Scalar.indexCast v245
  let c0 : Index := 0#32
  ![v250.toNat, v251.toNat, 0]

def k0_chk69 (v249 : IVec S16 32) (v264 : IVec S16 32) : Prop :=
  (∀ a x, ((![v264, v249] : Fin 2 → IVec S16 32) a x).toNat < S416x85.size a)
theorem k0_idx69_inb : ∀ (v249 : IVec S16 32) (v264 : IVec S16 32) (k0_hw69 : k0_chk69 v249 v264), ∀ a x, ((![v264, v249] : Fin 2 → IVec S16 32) a x).toNat < S416x85.size a := fun v249 v264 k0_hw69 => k0_hw69
def k0_off76 (k0_t14 : Fin k0_t14_loop.trips) : Fin 3 → Nat :=
  let c0_i32_308 : BitVec 32 := 0#32
  let c0_i32_299 : BitVec 32 := 0#32
  let c1_i32_301 : BitVec 32 := 1#32
  let arg13 : BitVec 32 := Scf.iv c0_i32_299 c1_i32_301 k0_t14
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v265 : Index := Scalar.indexCast v244
  let c7_i32 : BitVec 32 := 7#32
  let v245 : BitVec 32 := Scalar.andi v243 c7_i32
  let v266 : Index := Scalar.indexCast v245
  let c16 : Index := 16#32
  ![v265.toNat, v266.toNat, 16]

def k0_chk70 (v249 : IVec S16 32) (v279 : IVec S16 32) : Prop :=
  (∀ a x, ((![v279, v249] : Fin 2 → IVec S16 32) a x).toNat < S416x85.size a)
theorem k0_idx70_inb : ∀ (v249 : IVec S16 32) (v279 : IVec S16 32) (k0_hw70 : k0_chk70 v249 v279), ∀ a x, ((![v279, v249] : Fin 2 → IVec S16 32) a x).toNat < S416x85.size a := fun v249 v279 k0_hw70 => k0_hw70
def k0_off77 (k0_t14 : Fin k0_t14_loop.trips) : Fin 3 → Nat :=
  let c0_i32_308 : BitVec 32 := 0#32
  let c0_i32_299 : BitVec 32 := 0#32
  let c1_i32_301 : BitVec 32 := 1#32
  let arg13 : BitVec 32 := Scf.iv c0_i32_299 c1_i32_301 k0_t14
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v280 : Index := Scalar.indexCast v244
  let c7_i32 : BitVec 32 := 7#32
  let v245 : BitVec 32 := Scalar.andi v243 c7_i32
  let v281 : Index := Scalar.indexCast v245
  let c32 : Index := 32#32
  ![v280.toNat, v281.toNat, 32]

def k0_chk71 (v249 : IVec S16 32) (v294 : IVec S16 32) : Prop :=
  (∀ a x, ((![v294, v249] : Fin 2 → IVec S16 32) a x).toNat < S416x85.size a)
theorem k0_idx71_inb : ∀ (v249 : IVec S16 32) (v294 : IVec S16 32) (k0_hw71 : k0_chk71 v249 v294), ∀ a x, ((![v294, v249] : Fin 2 → IVec S16 32) a x).toNat < S416x85.size a := fun v249 v294 k0_hw71 => k0_hw71
def k0_off78 (k0_t14 : Fin k0_t14_loop.trips) : Fin 3 → Nat :=
  let c0_i32_308 : BitVec 32 := 0#32
  let c0_i32_299 : BitVec 32 := 0#32
  let c1_i32_301 : BitVec 32 := 1#32
  let arg13 : BitVec 32 := Scf.iv c0_i32_299 c1_i32_301 k0_t14
  let c1_i32_307 : BitVec 32 := 1#32
  let v242 : BitVec 32 := Scalar.muli arg13 c1_i32_307
  let v243 : BitVec 32 := Scalar.addi c0_i32_308 v242
  let c3_i32_309 : BitVec 32 := 3#32
  let v244 : BitVec 32 := Scalar.shrui v243 c3_i32_309
  let v295 : Index := Scalar.indexCast v244
  let c7_i32 : BitVec 32 := 7#32
  let v245 : BitVec 32 := Scalar.andi v243 c7_i32
  let v296 : Index := Scalar.indexCast v245
  let c36 : Index := 36#32
  ![v295.toNat, v296.toNat, 36]

def k0_chk72 (v249 : IVec S16 32) (v309 : IVec S16 32) : Prop :=
  (∀ a x, ((![v309, v249] : Fin 2 → IVec S16 32) a x).toNat < S416x85.size a)
theorem k0_idx72_inb : ∀ (v249 : IVec S16 32) (v309 : IVec S16 32) (k0_hw72 : k0_chk72 v249 v309), ∀ a x, ((![v309, v249] : Fin 2 → IVec S16 32) a x).toNat < S416x85.size a := fun v249 v309 k0_hw72 => k0_hw72
def k0_off79 (i : grid0.Coords) (k0_t1 : Fin k0_t1_loop.trips) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c2704_i32_303 : BitVec 32 := 2704#32
  let v235 : BitVec 32 := Scalar.muli arg11 c2704_i32_303
  let c0_i32_19 : BitVec 32 := 0#32
  let c1_i32_21 : BitVec 32 := 1#32
  let arg12 : BitVec 32 := Scf.iv c0_i32_19 c1_i32_21 k0_t2
  let c16_i32_54 : BitVec 32 := 16#32
  let v48 : BitVec 32 := Scalar.muli arg12 c16_i32_54
  let c8_i32 : BitVec 32 := 8#32
  let v49 : BitVec 32 := Scalar.addi v48 c8_i32
  let v50 : BitVec 32 := v49
  let c52_i32_304 : BitVec 32 := 52#32
  let v236 : BitVec 32 := Scalar.muli v50 c52_i32_304
  let v237 : BitVec 32 := Scalar.addi v235 v236
  let c0_i32_305 : BitVec 32 := 0#32
  ![v1.toNat, v237.toNat, 0]
def k0_off80 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c2704_i32 : BitVec 32 := 2704#32
  let v22 : BitVec 32 := Scalar.muli arg11 c2704_i32
  let c2080_i32 : BitVec 32 := 2080#32
  let v23 : BitVec 32 := Scalar.addi v22 c2080_i32
  let c0_i32_23 : BitVec 32 := 0#32
  ![v1.toNat, v23.toNat, 0]
def k0_off81 (i : grid0.Coords) (k0_t1 : Fin k0_t1_loop.trips) (c0_i32_26 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c85_i32_25 : BitVec 32 := 85#32
  let v28 : BitVec 32 := Scalar.muli arg11 c85_i32_25
  let v29 : BitVec 32 := Scalar.addi v28 c0_i32_26
  let c48_i32_r0 : BitVec 32 := 48#32
  let c0_i32_54_r0 : BitVec 32 := 0#32
  ![v1.toNat, v29.toNat, 48, 0]
@[reducible] def k0_t15_loop : Scf.Loop 32 :=
  let c0_i32_27 : BitVec 32 := 0#32
  let c4_i32 : BitVec 32 := 4#32
  let v30 : BitVec 32 := Scalar.addi c0_i32_27 c4_i32
  let c1_i32_28 : BitVec 32 := 1#32
  ⟨c0_i32_27, v30, c1_i32_28⟩
def k0_off82 (k0_t15 : Fin k0_t15_loop.trips) : Fin 3 → Nat :=
  let c0_i32_59 : BitVec 32 := 0#32
  let v58 : Index := Scalar.indexCast c0_i32_59
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v59 : Index := Scalar.indexCast v47
  let c0 : Index := 0#32
  ![0, v59.toNat, 0]
def k0_off83 (k0_t15 : Fin k0_t15_loop.trips) : Fin 3 → Nat :=
  let c1_i32_64 : BitVec 32 := 1#32
  let v71 : Index := Scalar.indexCast c1_i32_64
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v72 : Index := Scalar.indexCast v47
  let c0_65 : Index := 0#32
  ![1, v72.toNat, 0]
def k0_off84 (k0_t15 : Fin k0_t15_loop.trips) : Fin 3 → Nat :=
  let c2_i32_70 : BitVec 32 := 2#32
  let v85 : Index := Scalar.indexCast c2_i32_70
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v86 : Index := Scalar.indexCast v47
  let c0_71 : Index := 0#32
  ![2, v86.toNat, 0]
def k0_off85 (k0_t15 : Fin k0_t15_loop.trips) : Fin 3 → Nat :=
  let c3_i32_73 : BitVec 32 := 3#32
  let v93 : Index := Scalar.indexCast c3_i32_73
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v94 : Index := Scalar.indexCast v47
  let c0_74 : Index := 0#32
  ![3, v94.toNat, 0]

def k0_chk73 (v54 : IVec S16 32) (v101 : IVec S16 32) : Prop :=
  (∀ a x, ((![v54, v101] : Fin 2 → IVec S16 32) a x).toNat < S416x85.size a)
theorem k0_idx73_inb : ∀ (v54 : IVec S16 32) (v101 : IVec S16 32) (k0_hw73 : k0_chk73 v54 v101), ∀ a x, ((![v54, v101] : Fin 2 → IVec S16 32) a x).toNat < S416x85.size a := fun v54 v101 k0_hw73 => k0_hw73

def k0_chk74 (v54 : IVec S16 32) (v102 : IVec S16 32) : Prop :=
  (∀ a x, ((![v54, v102] : Fin 2 → IVec S16 32) a x).toNat < S416x85.size a)
theorem k0_idx74_inb : ∀ (v54 : IVec S16 32) (v102 : IVec S16 32) (k0_hw74 : k0_chk74 v54 v102), ∀ a x, ((![v54, v102] : Fin 2 → IVec S16 32) a x).toNat < S416x85.size a := fun v54 v102 k0_hw74 => k0_hw74

def k0_chk75 (v54 : IVec S16 32) (v103 : IVec S16 32) : Prop :=
  (∀ a x, ((![v54, v103] : Fin 2 → IVec S16 32) a x).toNat < S416x85.size a)
theorem k0_idx75_inb : ∀ (v54 : IVec S16 32) (v103 : IVec S16 32) (k0_hw75 : k0_chk75 v54 v103), ∀ a x, ((![v54, v103] : Fin 2 → IVec S16 32) a x).toNat < S416x85.size a := fun v54 v103 k0_hw75 => k0_hw75

def k0_chk76 (v54 : IVec S16 32) (v104 : IVec S16 32) : Prop :=
  (∀ a x, ((![v54, v104] : Fin 2 → IVec S16 32) a x).toNat < S416x85.size a)
theorem k0_idx76_inb : ∀ (v54 : IVec S16 32) (v104 : IVec S16 32) (k0_hw76 : k0_chk76 v54 v104), ∀ a x, ((![v54, v104] : Fin 2 → IVec S16 32) a x).toNat < S416x85.size a := fun v54 v104 k0_hw76 => k0_hw76
def k0_off86 (k0_t15 : Fin k0_t15_loop.trips) : Fin 3 → Nat :=
  let c0_i32_82 : BitVec 32 := 0#32
  let v113 : Index := Scalar.indexCast c0_i32_82
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v114 : Index := Scalar.indexCast v47
  let c16 : Index := 16#32
  ![0, v114.toNat, 16]
def k0_off87 (k0_t15 : Fin k0_t15_loop.trips) : Fin 3 → Nat :=
  let c1_i32_87 : BitVec 32 := 1#32
  let v126 : Index := Scalar.indexCast c1_i32_87
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v127 : Index := Scalar.indexCast v47
  let c16_88 : Index := 16#32
  ![1, v127.toNat, 16]
def k0_off88 (k0_t15 : Fin k0_t15_loop.trips) : Fin 3 → Nat :=
  let c2_i32_93 : BitVec 32 := 2#32
  let v140 : Index := Scalar.indexCast c2_i32_93
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v141 : Index := Scalar.indexCast v47
  let c16_94 : Index := 16#32
  ![2, v141.toNat, 16]
def k0_off89 (k0_t15 : Fin k0_t15_loop.trips) : Fin 3 → Nat :=
  let c3_i32_96 : BitVec 32 := 3#32
  let v148 : Index := Scalar.indexCast c3_i32_96
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v149 : Index := Scalar.indexCast v47
  let c16_97 : Index := 16#32
  ![3, v149.toNat, 16]

def k0_chk77 (v109 : IVec S16 32) (v156 : IVec S16 32) : Prop :=
  (∀ a x, ((![v109, v156] : Fin 2 → IVec S16 32) a x).toNat < S416x85.size a)
theorem k0_idx77_inb : ∀ (v109 : IVec S16 32) (v156 : IVec S16 32) (k0_hw77 : k0_chk77 v109 v156), ∀ a x, ((![v109, v156] : Fin 2 → IVec S16 32) a x).toNat < S416x85.size a := fun v109 v156 k0_hw77 => k0_hw77

def k0_chk78 (v109 : IVec S16 32) (v157 : IVec S16 32) : Prop :=
  (∀ a x, ((![v109, v157] : Fin 2 → IVec S16 32) a x).toNat < S416x85.size a)
theorem k0_idx78_inb : ∀ (v109 : IVec S16 32) (v157 : IVec S16 32) (k0_hw78 : k0_chk78 v109 v157), ∀ a x, ((![v109, v157] : Fin 2 → IVec S16 32) a x).toNat < S416x85.size a := fun v109 v157 k0_hw78 => k0_hw78

def k0_chk79 (v109 : IVec S16 32) (v158 : IVec S16 32) : Prop :=
  (∀ a x, ((![v109, v158] : Fin 2 → IVec S16 32) a x).toNat < S416x85.size a)
theorem k0_idx79_inb : ∀ (v109 : IVec S16 32) (v158 : IVec S16 32) (k0_hw79 : k0_chk79 v109 v158), ∀ a x, ((![v109, v158] : Fin 2 → IVec S16 32) a x).toNat < S416x85.size a := fun v109 v158 k0_hw79 => k0_hw79

def k0_chk80 (v109 : IVec S16 32) (v159 : IVec S16 32) : Prop :=
  (∀ a x, ((![v109, v159] : Fin 2 → IVec S16 32) a x).toNat < S416x85.size a)
theorem k0_idx80_inb : ∀ (v109 : IVec S16 32) (v159 : IVec S16 32) (k0_hw80 : k0_chk80 v109 v159), ∀ a x, ((![v109, v159] : Fin 2 → IVec S16 32) a x).toNat < S416x85.size a := fun v109 v159 k0_hw80 => k0_hw80
def k0_off90 (k0_t15 : Fin k0_t15_loop.trips) : Fin 3 → Nat :=
  let c0_i32_105 : BitVec 32 := 0#32
  let v168 : Index := Scalar.indexCast c0_i32_105
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v169 : Index := Scalar.indexCast v47
  let c32 : Index := 32#32
  ![0, v169.toNat, 32]
def k0_off91 (k0_t15 : Fin k0_t15_loop.trips) : Fin 3 → Nat :=
  let c1_i32_110 : BitVec 32 := 1#32
  let v181 : Index := Scalar.indexCast c1_i32_110
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v182 : Index := Scalar.indexCast v47
  let c32_111 : Index := 32#32
  ![1, v182.toNat, 32]
def k0_off92 (k0_t15 : Fin k0_t15_loop.trips) : Fin 3 → Nat :=
  let c2_i32_116 : BitVec 32 := 2#32
  let v195 : Index := Scalar.indexCast c2_i32_116
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v196 : Index := Scalar.indexCast v47
  let c32_117 : Index := 32#32
  ![2, v196.toNat, 32]
def k0_off93 (k0_t15 : Fin k0_t15_loop.trips) : Fin 3 → Nat :=
  let c3_i32_119 : BitVec 32 := 3#32
  let v203 : Index := Scalar.indexCast c3_i32_119
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v204 : Index := Scalar.indexCast v47
  let c32_120 : Index := 32#32
  ![3, v204.toNat, 32]

def k0_chk81 (v164 : IVec S16 32) (v211 : IVec S16 32) : Prop :=
  (∀ a x, ((![v164, v211] : Fin 2 → IVec S16 32) a x).toNat < S416x85.size a)
theorem k0_idx81_inb : ∀ (v164 : IVec S16 32) (v211 : IVec S16 32) (k0_hw81 : k0_chk81 v164 v211), ∀ a x, ((![v164, v211] : Fin 2 → IVec S16 32) a x).toNat < S416x85.size a := fun v164 v211 k0_hw81 => k0_hw81

def k0_chk82 (v164 : IVec S16 32) (v212 : IVec S16 32) : Prop :=
  (∀ a x, ((![v164, v212] : Fin 2 → IVec S16 32) a x).toNat < S416x85.size a)
theorem k0_idx82_inb : ∀ (v164 : IVec S16 32) (v212 : IVec S16 32) (k0_hw82 : k0_chk82 v164 v212), ∀ a x, ((![v164, v212] : Fin 2 → IVec S16 32) a x).toNat < S416x85.size a := fun v164 v212 k0_hw82 => k0_hw82

def k0_chk83 (v164 : IVec S16 32) (v213 : IVec S16 32) : Prop :=
  (∀ a x, ((![v164, v213] : Fin 2 → IVec S16 32) a x).toNat < S416x85.size a)
theorem k0_idx83_inb : ∀ (v164 : IVec S16 32) (v213 : IVec S16 32) (k0_hw83 : k0_chk83 v164 v213), ∀ a x, ((![v164, v213] : Fin 2 → IVec S16 32) a x).toNat < S416x85.size a := fun v164 v213 k0_hw83 => k0_hw83

def k0_chk84 (v164 : IVec S16 32) (v214 : IVec S16 32) : Prop :=
  (∀ a x, ((![v164, v214] : Fin 2 → IVec S16 32) a x).toNat < S416x85.size a)
theorem k0_idx84_inb : ∀ (v164 : IVec S16 32) (v214 : IVec S16 32) (k0_hw84 : k0_chk84 v164 v214), ∀ a x, ((![v164, v214] : Fin 2 → IVec S16 32) a x).toNat < S416x85.size a := fun v164 v214 k0_hw84 => k0_hw84
def k0_off94 (k0_t15 : Fin k0_t15_loop.trips) : Fin 3 → Nat :=
  let c0_i32_128 : BitVec 32 := 0#32
  let v223 : Index := Scalar.indexCast c0_i32_128
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v224 : Index := Scalar.indexCast v47
  let c36 : Index := 36#32
  ![0, v224.toNat, 36]
def k0_off95 (k0_t15 : Fin k0_t15_loop.trips) : Fin 3 → Nat :=
  let c1_i32_133 : BitVec 32 := 1#32
  let v236 : Index := Scalar.indexCast c1_i32_133
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v237 : Index := Scalar.indexCast v47
  let c36_134 : Index := 36#32
  ![1, v237.toNat, 36]
def k0_off96 (k0_t15 : Fin k0_t15_loop.trips) : Fin 3 → Nat :=
  let c2_i32_139 : BitVec 32 := 2#32
  let v250 : Index := Scalar.indexCast c2_i32_139
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v251 : Index := Scalar.indexCast v47
  let c36_140 : Index := 36#32
  ![2, v251.toNat, 36]
def k0_off97 (k0_t15 : Fin k0_t15_loop.trips) : Fin 3 → Nat :=
  let c3_i32_142 : BitVec 32 := 3#32
  let v258 : Index := Scalar.indexCast c3_i32_142
  let c0_i32_55 : BitVec 32 := 0#32
  let c0_i32_27 : BitVec 32 := 0#32
  let c1_i32_28 : BitVec 32 := 1#32
  let arg12 : BitVec 32 := Scf.iv c0_i32_27 c1_i32_28 k0_t15
  let c1_i32_54 : BitVec 32 := 1#32
  let v46 : BitVec 32 := Scalar.muli arg12 c1_i32_54
  let v47 : BitVec 32 := Scalar.addi c0_i32_55 v46
  let v259 : Index := Scalar.indexCast v47
  let c36_143 : Index := 36#32
  ![3, v259.toNat, 36]

def k0_chk85 (v219 : IVec S16 32) (v266 : IVec S16 32) : Prop :=
  (∀ a x, ((![v219, v266] : Fin 2 → IVec S16 32) a x).toNat < S416x85.size a)
theorem k0_idx85_inb : ∀ (v219 : IVec S16 32) (v266 : IVec S16 32) (k0_hw85 : k0_chk85 v219 v266), ∀ a x, ((![v219, v266] : Fin 2 → IVec S16 32) a x).toNat < S416x85.size a := fun v219 v266 k0_hw85 => k0_hw85

def k0_chk86 (v219 : IVec S16 32) (v267 : IVec S16 32) : Prop :=
  (∀ a x, ((![v219, v267] : Fin 2 → IVec S16 32) a x).toNat < S416x85.size a)
theorem k0_idx86_inb : ∀ (v219 : IVec S16 32) (v267 : IVec S16 32) (k0_hw86 : k0_chk86 v219 v267), ∀ a x, ((![v219, v267] : Fin 2 → IVec S16 32) a x).toNat < S416x85.size a := fun v219 v267 k0_hw86 => k0_hw86

def k0_chk87 (v219 : IVec S16 32) (v268 : IVec S16 32) : Prop :=
  (∀ a x, ((![v219, v268] : Fin 2 → IVec S16 32) a x).toNat < S416x85.size a)
theorem k0_idx87_inb : ∀ (v219 : IVec S16 32) (v268 : IVec S16 32) (k0_hw87 : k0_chk87 v219 v268), ∀ a x, ((![v219, v268] : Fin 2 → IVec S16 32) a x).toNat < S416x85.size a := fun v219 v268 k0_hw87 => k0_hw87

def k0_chk88 (v219 : IVec S16 32) (v269 : IVec S16 32) : Prop :=
  (∀ a x, ((![v219, v269] : Fin 2 → IVec S16 32) a x).toNat < S416x85.size a)
theorem k0_idx88_inb : ∀ (v219 : IVec S16 32) (v269 : IVec S16 32) (k0_hw88 : k0_chk88 v219 v269), ∀ a x, ((![v219, v269] : Fin 2 → IVec S16 32) a x).toNat < S416x85.size a := fun v219 v269 k0_hw88 => k0_hw88
@[reducible] def k0_t16_loop : Scf.Loop 32 :=
  let c0_i32_30 : BitVec 32 := 0#32
  let c52_i32 : BitVec 32 := 52#32
  let v31 : BitVec 32 := Scalar.addi c0_i32_30 c52_i32
  let c1_i32_31 : BitVec 32 := 1#32
  ⟨c0_i32_30, v31, c1_i32_31⟩
def k0_off98 (k0_t16 : Fin k0_t16_loop.trips) : Fin 3 → Nat :=
  let c16_i32 : BitVec 32 := 16#32
  let c0_i32_30 : BitVec 32 := 0#32
  let c1_i32_31 : BitVec 32 := 1#32
  let arg12 : BitVec 32 := Scf.iv c0_i32_30 c1_i32_31 k0_t16
  let c1_i32_54 : BitVec 32 := 1#32
  let v46 : BitVec 32 := Scalar.muli arg12 c1_i32_54
  let v47 : BitVec 32 := Scalar.addi c16_i32 v46
  let c2_i32_55 : BitVec 32 := 2#32
  let v48 : BitVec 32 := Scalar.shrui v47 c2_i32_55
  let v54 : Index := Scalar.indexCast v48
  let c3_i32_56 : BitVec 32 := 3#32
  let v49 : BitVec 32 := Scalar.andi v47 c3_i32_56
  let v55 : Index := Scalar.indexCast v49
  let c0 : Index := 0#32
  ![v54.toNat, v55.toNat, 0]

def k0_chk89 (v53 : IVec S16 32) (v68 : IVec S16 32) : Prop :=
  (∀ a x, ((![v68, v53] : Fin 2 → IVec S16 32) a x).toNat < S416x85.size a)
theorem k0_idx89_inb : ∀ (v53 : IVec S16 32) (v68 : IVec S16 32) (k0_hw89 : k0_chk89 v53 v68), ∀ a x, ((![v68, v53] : Fin 2 → IVec S16 32) a x).toNat < S416x85.size a := fun v53 v68 k0_hw89 => k0_hw89
def k0_off99 (k0_t16 : Fin k0_t16_loop.trips) : Fin 3 → Nat :=
  let c16_i32 : BitVec 32 := 16#32
  let c0_i32_30 : BitVec 32 := 0#32
  let c1_i32_31 : BitVec 32 := 1#32
  let arg12 : BitVec 32 := Scf.iv c0_i32_30 c1_i32_31 k0_t16
  let c1_i32_54 : BitVec 32 := 1#32
  let v46 : BitVec 32 := Scalar.muli arg12 c1_i32_54
  let v47 : BitVec 32 := Scalar.addi c16_i32 v46
  let c2_i32_55 : BitVec 32 := 2#32
  let v48 : BitVec 32 := Scalar.shrui v47 c2_i32_55
  let v69 : Index := Scalar.indexCast v48
  let c3_i32_56 : BitVec 32 := 3#32
  let v49 : BitVec 32 := Scalar.andi v47 c3_i32_56
  let v70 : Index := Scalar.indexCast v49
  let c16 : Index := 16#32
  ![v69.toNat, v70.toNat, 16]

def k0_chk90 (v53 : IVec S16 32) (v83 : IVec S16 32) : Prop :=
  (∀ a x, ((![v83, v53] : Fin 2 → IVec S16 32) a x).toNat < S416x85.size a)
theorem k0_idx90_inb : ∀ (v53 : IVec S16 32) (v83 : IVec S16 32) (k0_hw90 : k0_chk90 v53 v83), ∀ a x, ((![v83, v53] : Fin 2 → IVec S16 32) a x).toNat < S416x85.size a := fun v53 v83 k0_hw90 => k0_hw90
def k0_off100 (k0_t16 : Fin k0_t16_loop.trips) : Fin 3 → Nat :=
  let c16_i32 : BitVec 32 := 16#32
  let c0_i32_30 : BitVec 32 := 0#32
  let c1_i32_31 : BitVec 32 := 1#32
  let arg12 : BitVec 32 := Scf.iv c0_i32_30 c1_i32_31 k0_t16
  let c1_i32_54 : BitVec 32 := 1#32
  let v46 : BitVec 32 := Scalar.muli arg12 c1_i32_54
  let v47 : BitVec 32 := Scalar.addi c16_i32 v46
  let c2_i32_55 : BitVec 32 := 2#32
  let v48 : BitVec 32 := Scalar.shrui v47 c2_i32_55
  let v84 : Index := Scalar.indexCast v48
  let c3_i32_56 : BitVec 32 := 3#32
  let v49 : BitVec 32 := Scalar.andi v47 c3_i32_56
  let v85 : Index := Scalar.indexCast v49
  let c32 : Index := 32#32
  ![v84.toNat, v85.toNat, 32]

def k0_chk91 (v53 : IVec S16 32) (v98 : IVec S16 32) : Prop :=
  (∀ a x, ((![v98, v53] : Fin 2 → IVec S16 32) a x).toNat < S416x85.size a)
theorem k0_idx91_inb : ∀ (v53 : IVec S16 32) (v98 : IVec S16 32) (k0_hw91 : k0_chk91 v53 v98), ∀ a x, ((![v98, v53] : Fin 2 → IVec S16 32) a x).toNat < S416x85.size a := fun v53 v98 k0_hw91 => k0_hw91
def k0_off101 (k0_t16 : Fin k0_t16_loop.trips) : Fin 3 → Nat :=
  let c16_i32 : BitVec 32 := 16#32
  let c0_i32_30 : BitVec 32 := 0#32
  let c1_i32_31 : BitVec 32 := 1#32
  let arg12 : BitVec 32 := Scf.iv c0_i32_30 c1_i32_31 k0_t16
  let c1_i32_54 : BitVec 32 := 1#32
  let v46 : BitVec 32 := Scalar.muli arg12 c1_i32_54
  let v47 : BitVec 32 := Scalar.addi c16_i32 v46
  let c2_i32_55 : BitVec 32 := 2#32
  let v48 : BitVec 32 := Scalar.shrui v47 c2_i32_55
  let v99 : Index := Scalar.indexCast v48
  let c3_i32_56 : BitVec 32 := 3#32
  let v49 : BitVec 32 := Scalar.andi v47 c3_i32_56
  let v100 : Index := Scalar.indexCast v49
  let c36 : Index := 36#32
  ![v99.toNat, v100.toNat, 36]

def k0_chk92 (v53 : IVec S16 32) (v113 : IVec S16 32) : Prop :=
  (∀ a x, ((![v113, v53] : Fin 2 → IVec S16 32) a x).toNat < S416x85.size a)
theorem k0_idx92_inb : ∀ (v53 : IVec S16 32) (v113 : IVec S16 32) (k0_hw92 : k0_chk92 v53 v113), ∀ a x, ((![v113, v53] : Fin 2 → IVec S16 32) a x).toNat < S416x85.size a := fun v53 v113 k0_hw92 => k0_hw92
@[reducible] def k0_t17_loop : Scf.Loop 32 :=
  let c0_i32_34 : BitVec 32 := 0#32
  let c68_i32 : BitVec 32 := 68#32
  let v34 : BitVec 32 := Scalar.addi c0_i32_34 c68_i32
  let c1_i32_35 : BitVec 32 := 1#32
  ⟨c0_i32_34, v34, c1_i32_35⟩
def k0_off102 (k0_t17 : Fin k0_t17_loop.trips) : Fin 3 → Nat :=
  let c0_i32_55 : BitVec 32 := 0#32
  let c0_i32_34 : BitVec 32 := 0#32
  let c1_i32_35 : BitVec 32 := 1#32
  let arg12 : BitVec 32 := Scf.iv c0_i32_34 c1_i32_35 k0_t17
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v54 : Index := Scalar.indexCast v48
  let c3_i32_57 : BitVec 32 := 3#32
  let v49 : BitVec 32 := Scalar.andi v47 c3_i32_57
  let v55 : Index := Scalar.indexCast v49
  let c0 : Index := 0#32
  ![v54.toNat, v55.toNat, 0]

def k0_chk93 (v53 : IVec S16 32) (v68 : IVec S16 32) : Prop :=
  (∀ a x, ((![v68, v53] : Fin 2 → IVec S16 32) a x).toNat < S416x85.size a)
theorem k0_idx93_inb : ∀ (v53 : IVec S16 32) (v68 : IVec S16 32) (k0_hw93 : k0_chk93 v53 v68), ∀ a x, ((![v68, v53] : Fin 2 → IVec S16 32) a x).toNat < S416x85.size a := fun v53 v68 k0_hw93 => k0_hw93
def k0_off103 (k0_t17 : Fin k0_t17_loop.trips) : Fin 3 → Nat :=
  let c0_i32_55 : BitVec 32 := 0#32
  let c0_i32_34 : BitVec 32 := 0#32
  let c1_i32_35 : BitVec 32 := 1#32
  let arg12 : BitVec 32 := Scf.iv c0_i32_34 c1_i32_35 k0_t17
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v69 : Index := Scalar.indexCast v48
  let c3_i32_57 : BitVec 32 := 3#32
  let v49 : BitVec 32 := Scalar.andi v47 c3_i32_57
  let v70 : Index := Scalar.indexCast v49
  let c16 : Index := 16#32
  ![v69.toNat, v70.toNat, 16]

def k0_chk94 (v53 : IVec S16 32) (v83 : IVec S16 32) : Prop :=
  (∀ a x, ((![v83, v53] : Fin 2 → IVec S16 32) a x).toNat < S416x85.size a)
theorem k0_idx94_inb : ∀ (v53 : IVec S16 32) (v83 : IVec S16 32) (k0_hw94 : k0_chk94 v53 v83), ∀ a x, ((![v83, v53] : Fin 2 → IVec S16 32) a x).toNat < S416x85.size a := fun v53 v83 k0_hw94 => k0_hw94
def k0_off104 (k0_t17 : Fin k0_t17_loop.trips) : Fin 3 → Nat :=
  let c0_i32_55 : BitVec 32 := 0#32
  let c0_i32_34 : BitVec 32 := 0#32
  let c1_i32_35 : BitVec 32 := 1#32
  let arg12 : BitVec 32 := Scf.iv c0_i32_34 c1_i32_35 k0_t17
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v84 : Index := Scalar.indexCast v48
  let c3_i32_57 : BitVec 32 := 3#32
  let v49 : BitVec 32 := Scalar.andi v47 c3_i32_57
  let v85 : Index := Scalar.indexCast v49
  let c32 : Index := 32#32
  ![v84.toNat, v85.toNat, 32]

def k0_chk95 (v53 : IVec S16 32) (v98 : IVec S16 32) : Prop :=
  (∀ a x, ((![v98, v53] : Fin 2 → IVec S16 32) a x).toNat < S416x85.size a)
theorem k0_idx95_inb : ∀ (v53 : IVec S16 32) (v98 : IVec S16 32) (k0_hw95 : k0_chk95 v53 v98), ∀ a x, ((![v98, v53] : Fin 2 → IVec S16 32) a x).toNat < S416x85.size a := fun v53 v98 k0_hw95 => k0_hw95
def k0_off105 (k0_t17 : Fin k0_t17_loop.trips) : Fin 3 → Nat :=
  let c0_i32_55 : BitVec 32 := 0#32
  let c0_i32_34 : BitVec 32 := 0#32
  let c1_i32_35 : BitVec 32 := 1#32
  let arg12 : BitVec 32 := Scf.iv c0_i32_34 c1_i32_35 k0_t17
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v99 : Index := Scalar.indexCast v48
  let c3_i32_57 : BitVec 32 := 3#32
  let v49 : BitVec 32 := Scalar.andi v47 c3_i32_57
  let v100 : Index := Scalar.indexCast v49
  let c36 : Index := 36#32
  ![v99.toNat, v100.toNat, 36]

def k0_chk96 (v53 : IVec S16 32) (v113 : IVec S16 32) : Prop :=
  (∀ a x, ((![v113, v53] : Fin 2 → IVec S16 32) a x).toNat < S416x85.size a)
theorem k0_idx96_inb : ∀ (v53 : IVec S16 32) (v113 : IVec S16 32) (k0_hw96 : k0_chk96 v53 v113), ∀ a x, ((![v113, v53] : Fin 2 → IVec S16 32) a x).toNat < S416x85.size a := fun v53 v113 k0_hw96 => k0_hw96
@[reducible] def k0_t18_loop : Scf.Loop 32 :=
  let c0_i32_38 : BitVec 32 := 0#32
  let c68_i32_39 : BitVec 32 := 68#32
  let v37 : BitVec 32 := Scalar.addi c0_i32_38 c68_i32_39
  let c1_i32_40 : BitVec 32 := 1#32
  ⟨c0_i32_38, v37, c1_i32_40⟩
def k0_off106 (k0_t18 : Fin k0_t18_loop.trips) : Fin 3 → Nat :=
  let c0_i32_55 : BitVec 32 := 0#32
  let c0_i32_38 : BitVec 32 := 0#32
  let c1_i32_40 : BitVec 32 := 1#32
  let arg12 : BitVec 32 := Scf.iv c0_i32_38 c1_i32_40 k0_t18
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v54 : Index := Scalar.indexCast v48
  let c3_i32_57 : BitVec 32 := 3#32
  let v49 : BitVec 32 := Scalar.andi v47 c3_i32_57
  let v55 : Index := Scalar.indexCast v49
  let c0 : Index := 0#32
  ![v54.toNat, v55.toNat, 0]

def k0_chk97 (v53 : IVec S16 32) (v68 : IVec S16 32) : Prop :=
  (∀ a x, ((![v68, v53] : Fin 2 → IVec S16 32) a x).toNat < S416x85.size a)
theorem k0_idx97_inb : ∀ (v53 : IVec S16 32) (v68 : IVec S16 32) (k0_hw97 : k0_chk97 v53 v68), ∀ a x, ((![v68, v53] : Fin 2 → IVec S16 32) a x).toNat < S416x85.size a := fun v53 v68 k0_hw97 => k0_hw97
def k0_off107 (k0_t18 : Fin k0_t18_loop.trips) : Fin 3 → Nat :=
  let c0_i32_55 : BitVec 32 := 0#32
  let c0_i32_38 : BitVec 32 := 0#32
  let c1_i32_40 : BitVec 32 := 1#32
  let arg12 : BitVec 32 := Scf.iv c0_i32_38 c1_i32_40 k0_t18
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v69 : Index := Scalar.indexCast v48
  let c3_i32_57 : BitVec 32 := 3#32
  let v49 : BitVec 32 := Scalar.andi v47 c3_i32_57
  let v70 : Index := Scalar.indexCast v49
  let c16 : Index := 16#32
  ![v69.toNat, v70.toNat, 16]

def k0_chk98 (v53 : IVec S16 32) (v83 : IVec S16 32) : Prop :=
  (∀ a x, ((![v83, v53] : Fin 2 → IVec S16 32) a x).toNat < S416x85.size a)
theorem k0_idx98_inb : ∀ (v53 : IVec S16 32) (v83 : IVec S16 32) (k0_hw98 : k0_chk98 v53 v83), ∀ a x, ((![v83, v53] : Fin 2 → IVec S16 32) a x).toNat < S416x85.size a := fun v53 v83 k0_hw98 => k0_hw98
def k0_off108 (k0_t18 : Fin k0_t18_loop.trips) : Fin 3 → Nat :=
  let c0_i32_55 : BitVec 32 := 0#32
  let c0_i32_38 : BitVec 32 := 0#32
  let c1_i32_40 : BitVec 32 := 1#32
  let arg12 : BitVec 32 := Scf.iv c0_i32_38 c1_i32_40 k0_t18
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v84 : Index := Scalar.indexCast v48
  let c3_i32_57 : BitVec 32 := 3#32
  let v49 : BitVec 32 := Scalar.andi v47 c3_i32_57
  let v85 : Index := Scalar.indexCast v49
  let c32 : Index := 32#32
  ![v84.toNat, v85.toNat, 32]

def k0_chk99 (v53 : IVec S16 32) (v98 : IVec S16 32) : Prop :=
  (∀ a x, ((![v98, v53] : Fin 2 → IVec S16 32) a x).toNat < S416x85.size a)
theorem k0_idx99_inb : ∀ (v53 : IVec S16 32) (v98 : IVec S16 32) (k0_hw99 : k0_chk99 v53 v98), ∀ a x, ((![v98, v53] : Fin 2 → IVec S16 32) a x).toNat < S416x85.size a := fun v53 v98 k0_hw99 => k0_hw99
def k0_off109 (k0_t18 : Fin k0_t18_loop.trips) : Fin 3 → Nat :=
  let c0_i32_55 : BitVec 32 := 0#32
  let c0_i32_38 : BitVec 32 := 0#32
  let c1_i32_40 : BitVec 32 := 1#32
  let arg12 : BitVec 32 := Scf.iv c0_i32_38 c1_i32_40 k0_t18
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v99 : Index := Scalar.indexCast v48
  let c3_i32_57 : BitVec 32 := 3#32
  let v49 : BitVec 32 := Scalar.andi v47 c3_i32_57
  let v100 : Index := Scalar.indexCast v49
  let c36 : Index := 36#32
  ![v99.toNat, v100.toNat, 36]

def k0_chk100 (v53 : IVec S16 32) (v113 : IVec S16 32) : Prop :=
  (∀ a x, ((![v113, v53] : Fin 2 → IVec S16 32) a x).toNat < S416x85.size a)
theorem k0_idx100_inb : ∀ (v53 : IVec S16 32) (v113 : IVec S16 32) (k0_hw100 : k0_chk100 v53 v113), ∀ a x, ((![v113, v53] : Fin 2 → IVec S16 32) a x).toNat < S416x85.size a := fun v53 v113 k0_hw100 => k0_hw100
@[reducible] def k0_t19_loop : Scf.Loop 32 :=
  let c0_i32_43 : BitVec 32 := 0#32
  let c68_i32_44 : BitVec 32 := 68#32
  let v40 : BitVec 32 := Scalar.addi c0_i32_43 c68_i32_44
  let c1_i32_45 : BitVec 32 := 1#32
  ⟨c0_i32_43, v40, c1_i32_45⟩
def k0_off110 (k0_t19 : Fin k0_t19_loop.trips) : Fin 3 → Nat :=
  let c0_i32_55 : BitVec 32 := 0#32
  let c0_i32_43 : BitVec 32 := 0#32
  let c1_i32_45 : BitVec 32 := 1#32
  let arg12 : BitVec 32 := Scf.iv c0_i32_43 c1_i32_45 k0_t19
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v54 : Index := Scalar.indexCast v48
  let c3_i32_57 : BitVec 32 := 3#32
  let v49 : BitVec 32 := Scalar.andi v47 c3_i32_57
  let v55 : Index := Scalar.indexCast v49
  let c0 : Index := 0#32
  ![v54.toNat, v55.toNat, 0]

def k0_chk101 (v53 : IVec S16 32) (v68 : IVec S16 32) : Prop :=
  (∀ a x, ((![v68, v53] : Fin 2 → IVec S16 32) a x).toNat < S416x85.size a)
theorem k0_idx101_inb : ∀ (v53 : IVec S16 32) (v68 : IVec S16 32) (k0_hw101 : k0_chk101 v53 v68), ∀ a x, ((![v68, v53] : Fin 2 → IVec S16 32) a x).toNat < S416x85.size a := fun v53 v68 k0_hw101 => k0_hw101
def k0_off111 (k0_t19 : Fin k0_t19_loop.trips) : Fin 3 → Nat :=
  let c0_i32_55 : BitVec 32 := 0#32
  let c0_i32_43 : BitVec 32 := 0#32
  let c1_i32_45 : BitVec 32 := 1#32
  let arg12 : BitVec 32 := Scf.iv c0_i32_43 c1_i32_45 k0_t19
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v69 : Index := Scalar.indexCast v48
  let c3_i32_57 : BitVec 32 := 3#32
  let v49 : BitVec 32 := Scalar.andi v47 c3_i32_57
  let v70 : Index := Scalar.indexCast v49
  let c16 : Index := 16#32
  ![v69.toNat, v70.toNat, 16]

def k0_chk102 (v53 : IVec S16 32) (v83 : IVec S16 32) : Prop :=
  (∀ a x, ((![v83, v53] : Fin 2 → IVec S16 32) a x).toNat < S416x85.size a)
theorem k0_idx102_inb : ∀ (v53 : IVec S16 32) (v83 : IVec S16 32) (k0_hw102 : k0_chk102 v53 v83), ∀ a x, ((![v83, v53] : Fin 2 → IVec S16 32) a x).toNat < S416x85.size a := fun v53 v83 k0_hw102 => k0_hw102
def k0_off112 (k0_t19 : Fin k0_t19_loop.trips) : Fin 3 → Nat :=
  let c0_i32_55 : BitVec 32 := 0#32
  let c0_i32_43 : BitVec 32 := 0#32
  let c1_i32_45 : BitVec 32 := 1#32
  let arg12 : BitVec 32 := Scf.iv c0_i32_43 c1_i32_45 k0_t19
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v84 : Index := Scalar.indexCast v48
  let c3_i32_57 : BitVec 32 := 3#32
  let v49 : BitVec 32 := Scalar.andi v47 c3_i32_57
  let v85 : Index := Scalar.indexCast v49
  let c32 : Index := 32#32
  ![v84.toNat, v85.toNat, 32]

def k0_chk103 (v53 : IVec S16 32) (v98 : IVec S16 32) : Prop :=
  (∀ a x, ((![v98, v53] : Fin 2 → IVec S16 32) a x).toNat < S416x85.size a)
theorem k0_idx103_inb : ∀ (v53 : IVec S16 32) (v98 : IVec S16 32) (k0_hw103 : k0_chk103 v53 v98), ∀ a x, ((![v98, v53] : Fin 2 → IVec S16 32) a x).toNat < S416x85.size a := fun v53 v98 k0_hw103 => k0_hw103
def k0_off113 (k0_t19 : Fin k0_t19_loop.trips) : Fin 3 → Nat :=
  let c0_i32_55 : BitVec 32 := 0#32
  let c0_i32_43 : BitVec 32 := 0#32
  let c1_i32_45 : BitVec 32 := 1#32
  let arg12 : BitVec 32 := Scf.iv c0_i32_43 c1_i32_45 k0_t19
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v99 : Index := Scalar.indexCast v48
  let c3_i32_57 : BitVec 32 := 3#32
  let v49 : BitVec 32 := Scalar.andi v47 c3_i32_57
  let v100 : Index := Scalar.indexCast v49
  let c36 : Index := 36#32
  ![v99.toNat, v100.toNat, 36]

def k0_chk104 (v53 : IVec S16 32) (v113 : IVec S16 32) : Prop :=
  (∀ a x, ((![v113, v53] : Fin 2 → IVec S16 32) a x).toNat < S416x85.size a)
theorem k0_idx104_inb : ∀ (v53 : IVec S16 32) (v113 : IVec S16 32) (k0_hw104 : k0_chk104 v53 v113), ∀ a x, ((![v113, v53] : Fin 2 → IVec S16 32) a x).toNat < S416x85.size a := fun v53 v113 k0_hw104 => k0_hw104
@[reducible] def k0_t20_loop : Scf.Loop 32 :=
  let c0_i32_49 : BitVec 32 := 0#32
  let c68_i32_50 : BitVec 32 := 68#32
  let v43 : BitVec 32 := Scalar.addi c0_i32_49 c68_i32_50
  let c1_i32_51 : BitVec 32 := 1#32
  ⟨c0_i32_49, v43, c1_i32_51⟩
def k0_off114 (k0_t20 : Fin k0_t20_loop.trips) : Fin 3 → Nat :=
  let c0_i32_55 : BitVec 32 := 0#32
  let c0_i32_49 : BitVec 32 := 0#32
  let c1_i32_51 : BitVec 32 := 1#32
  let arg12 : BitVec 32 := Scf.iv c0_i32_49 c1_i32_51 k0_t20
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v54 : Index := Scalar.indexCast v48
  let c3_i32_57 : BitVec 32 := 3#32
  let v49 : BitVec 32 := Scalar.andi v47 c3_i32_57
  let v55 : Index := Scalar.indexCast v49
  let c0 : Index := 0#32
  ![v54.toNat, v55.toNat, 0]

def k0_chk105 (v53 : IVec S16 32) (v68 : IVec S16 32) : Prop :=
  (∀ a x, ((![v68, v53] : Fin 2 → IVec S16 32) a x).toNat < S416x85.size a)
theorem k0_idx105_inb : ∀ (v53 : IVec S16 32) (v68 : IVec S16 32) (k0_hw105 : k0_chk105 v53 v68), ∀ a x, ((![v68, v53] : Fin 2 → IVec S16 32) a x).toNat < S416x85.size a := fun v53 v68 k0_hw105 => k0_hw105
def k0_off115 (k0_t20 : Fin k0_t20_loop.trips) : Fin 3 → Nat :=
  let c0_i32_55 : BitVec 32 := 0#32
  let c0_i32_49 : BitVec 32 := 0#32
  let c1_i32_51 : BitVec 32 := 1#32
  let arg12 : BitVec 32 := Scf.iv c0_i32_49 c1_i32_51 k0_t20
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v69 : Index := Scalar.indexCast v48
  let c3_i32_57 : BitVec 32 := 3#32
  let v49 : BitVec 32 := Scalar.andi v47 c3_i32_57
  let v70 : Index := Scalar.indexCast v49
  let c16 : Index := 16#32
  ![v69.toNat, v70.toNat, 16]

def k0_chk106 (v53 : IVec S16 32) (v83 : IVec S16 32) : Prop :=
  (∀ a x, ((![v83, v53] : Fin 2 → IVec S16 32) a x).toNat < S416x85.size a)
theorem k0_idx106_inb : ∀ (v53 : IVec S16 32) (v83 : IVec S16 32) (k0_hw106 : k0_chk106 v53 v83), ∀ a x, ((![v83, v53] : Fin 2 → IVec S16 32) a x).toNat < S416x85.size a := fun v53 v83 k0_hw106 => k0_hw106
def k0_off116 (k0_t20 : Fin k0_t20_loop.trips) : Fin 3 → Nat :=
  let c0_i32_55 : BitVec 32 := 0#32
  let c0_i32_49 : BitVec 32 := 0#32
  let c1_i32_51 : BitVec 32 := 1#32
  let arg12 : BitVec 32 := Scf.iv c0_i32_49 c1_i32_51 k0_t20
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v84 : Index := Scalar.indexCast v48
  let c3_i32_57 : BitVec 32 := 3#32
  let v49 : BitVec 32 := Scalar.andi v47 c3_i32_57
  let v85 : Index := Scalar.indexCast v49
  let c32 : Index := 32#32
  ![v84.toNat, v85.toNat, 32]

def k0_chk107 (v53 : IVec S16 32) (v98 : IVec S16 32) : Prop :=
  (∀ a x, ((![v98, v53] : Fin 2 → IVec S16 32) a x).toNat < S416x85.size a)
theorem k0_idx107_inb : ∀ (v53 : IVec S16 32) (v98 : IVec S16 32) (k0_hw107 : k0_chk107 v53 v98), ∀ a x, ((![v98, v53] : Fin 2 → IVec S16 32) a x).toNat < S416x85.size a := fun v53 v98 k0_hw107 => k0_hw107
def k0_off117 (k0_t20 : Fin k0_t20_loop.trips) : Fin 3 → Nat :=
  let c0_i32_55 : BitVec 32 := 0#32
  let c0_i32_49 : BitVec 32 := 0#32
  let c1_i32_51 : BitVec 32 := 1#32
  let arg12 : BitVec 32 := Scf.iv c0_i32_49 c1_i32_51 k0_t20
  let c1_i32_54 : BitVec 32 := 1#32
  let v46 : BitVec 32 := Scalar.muli arg12 c1_i32_54
  let v47 : BitVec 32 := Scalar.addi c0_i32_55 v46
  let c2_i32_56 : BitVec 32 := 2#32
  let v48 : BitVec 32 := Scalar.shrui v47 c2_i32_56
  let v99 : Index := Scalar.indexCast v48
  let c3_i32_57 : BitVec 32 := 3#32
  let v49 : BitVec 32 := Scalar.andi v47 c3_i32_57
  let v100 : Index := Scalar.indexCast v49
  let c36 : Index := 36#32
  ![v99.toNat, v100.toNat, 36]

def k0_chk108 (v53 : IVec S16 32) (v113 : IVec S16 32) : Prop :=
  (∀ a x, ((![v113, v53] : Fin 2 → IVec S16 32) a x).toNat < S416x85.size a)
theorem k0_idx108_inb : ∀ (v53 : IVec S16 32) (v113 : IVec S16 32) (k0_hw108 : k0_chk108 v53 v113), ∀ a x, ((![v113, v53] : Fin 2 → IVec S16 32) a x).toNat < S416x85.size a := fun v53 v113 k0_hw108 => k0_hw108
def k0_off118 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c2704_i32_53 : BitVec 32 := 2704#32
  let v44 : BitVec 32 := Scalar.muli arg11 c2704_i32_53
  let c2496_i32 : BitVec 32 := 2496#32
  let v45 : BitVec 32 := Scalar.addi v44 c2496_i32
  let c0_i32_56_r5 : BitVec 32 := 0#32
  ![v1.toNat, v45.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x255x52x52 : Shape := ⟨4, ![32, 255, 52, 52]⟩
abbrev S3x2 : Shape := ⟨2, ![3, 2]⟩
abbrev S32x3x85x52x52 : Shape := ⟨5, ![32, 3, 85, 52, 52]⟩
abbrev S32x3x52x52x85 : Shape := ⟨5, ![32, 3, 52, 52, 85]⟩
abbrev S32x3x52x52x1 : Shape := ⟨5, ![32, 3, 52, 52, 1]⟩
abbrev S32x3x52x52 : Shape := ⟨4, ![32, 3, 52, 52]⟩
abbrev S_ : Shape := ⟨0, ![]⟩
abbrev S32x3x52x52x80 : Shape := ⟨5, ![32, 3, 52, 52, 80]⟩
abbrev S52 : Shape := ⟨1, ![52]⟩
abbrev S1x1x1x52 : Shape := ⟨4, ![1, 1, 1, 52]⟩
abbrev S1x1x52x1 : Shape := ⟨4, ![1, 1, 52, 1]⟩
abbrev S3x1 : Shape := ⟨2, ![3, 1]⟩
abbrev S3 : Shape := ⟨1, ![3]⟩
abbrev S1x3x1x1 : Shape := ⟨4, ![1, 3, 1, 1]⟩
abbrev S32x3x52x52x4 : Shape := ⟨5, ![32, 3, 52, 52, 4]⟩
abbrev S32x8112x4 : Shape := ⟨3, ![32, 8112, 4]⟩
abbrev S32x8112x1 : Shape := ⟨3, ![32, 8112, 1]⟩
abbrev S32x8112x80 : Shape := ⟨3, ![32, 8112, 80]⟩
abbrev S32x8112x85 : Shape := ⟨3, ![32, 8112, 85]⟩

abbrev nBuf : Space → Nat
  | .hbm => 82
  | .vmem => 0
  | .smem => 0
  | _ => 0

abbrev bufTy : (tb : Table) → Fin (tcTables nBuf tb) → BufTy
  | .hbm, ⟨0, _⟩ => ⟨S32x255x52x52, .f32⟩
  | .hbm, ⟨1, _⟩ => ⟨S3x2, .f32⟩
  | .hbm, ⟨2, _⟩ => ⟨S32x3x85x52x52, .f32⟩
  | .hbm, ⟨3, _⟩ => ⟨S32x3x52x52x85, .f32⟩
  | .hbm, ⟨4, _⟩ => ⟨S32x3x52x52x1, .f32⟩
  | .hbm, ⟨5, _⟩ => ⟨S32x3x52x52, .f32⟩
  | .hbm, ⟨6, _⟩ => ⟨S32x3x52x52, .f32⟩
  | .hbm, ⟨7, _⟩ => ⟨S32x3x52x52, .f32⟩
  | .hbm, ⟨8, _⟩ => ⟨S_, .f32⟩
  | .hbm, ⟨9, _⟩ => ⟨S32x3x52x52, .f32⟩
  | .hbm, ⟨10, _⟩ => ⟨S32x3x52x52, .f32⟩
  | .hbm, ⟨11, _⟩ => ⟨S_, .f32⟩
  | .hbm, ⟨12, _⟩ => ⟨S32x3x52x52, .f32⟩
  | .hbm, ⟨13, _⟩ => ⟨S32x3x52x52, .f32⟩
  | .hbm, ⟨14, _⟩ => ⟨S32x3x52x52x1, .f32⟩
  | .hbm, ⟨15, _⟩ => ⟨S32x3x52x52, .f32⟩
  | .hbm, ⟨16, _⟩ => ⟨S32x3x52x52, .f32⟩
  | .hbm, ⟨17, _⟩ => ⟨S32x3x52x52, .f32⟩
  | .hbm, ⟨18, _⟩ => ⟨S_, .f32⟩
  | .hbm, ⟨19, _⟩ => ⟨S32x3x52x52, .f32⟩
  | .hbm, ⟨20, _⟩ => ⟨S32x3x52x52, .f32⟩
  | .hbm, ⟨21, _⟩ => ⟨S_, .f32⟩
  | .hbm, ⟨22, _⟩ => ⟨S32x3x52x52, .f32⟩
  | .hbm, ⟨23, _⟩ => ⟨S32x3x52x52, .f32⟩
  | .hbm, ⟨24, _⟩ => ⟨S32x3x52x52x1, .f32⟩
  | .hbm, ⟨25, _⟩ => ⟨S32x3x52x52, .f32⟩
  | .hbm, ⟨26, _⟩ => ⟨S32x3x52x52x1, .f32⟩
  | .hbm, ⟨27, _⟩ => ⟨S32x3x52x52, .f32⟩
  | .hbm, ⟨28, _⟩ => ⟨S32x3x52x52x1, .f32⟩
  | .hbm, ⟨29, _⟩ => ⟨S32x3x52x52, .f32⟩
  | .hbm, ⟨30, _⟩ => ⟨S32x3x52x52, .f32⟩
  | .hbm, ⟨31, _⟩ => ⟨S32x3x52x52, .f32⟩
  | .hbm, ⟨32, _⟩ => ⟨S_, .f32⟩
  | .hbm, ⟨33, _⟩ => ⟨S32x3x52x52, .f32⟩
  | .hbm, ⟨34, _⟩ => ⟨S32x3x52x52, .f32⟩
  | .hbm, ⟨35, _⟩ => ⟨S_, .f32⟩
  | .hbm, ⟨36, _⟩ => ⟨S32x3x52x52, .f32⟩
  | .hbm, ⟨37, _⟩ => ⟨S32x3x52x52, .f32⟩
  | .hbm, ⟨38, _⟩ => ⟨S32x3x52x52x80, .f32⟩
  | .hbm, ⟨39, _⟩ => ⟨S32x3x52x52x80, .f32⟩
  | .hbm, ⟨40, _⟩ => ⟨S32x3x52x52x80, .f32⟩
  | .hbm, ⟨41, _⟩ => ⟨S_, .f32⟩
  | .hbm, ⟨42, _⟩ => ⟨S32x3x52x52x80, .f32⟩
  | .hbm, ⟨43, _⟩ => ⟨S32x3x52x52x80, .f32⟩
  | .hbm, ⟨44, _⟩ => ⟨S_, .f32⟩
  | .hbm, ⟨45, _⟩ => ⟨S32x3x52x52x80, .f32⟩
  | .hbm, ⟨46, _⟩ => ⟨S32x3x52x52x80, .f32⟩
  | .hbm, ⟨47, _⟩ => ⟨S52, .f32⟩
  | .hbm, ⟨48, _⟩ => ⟨S1x1x1x52, .f32⟩
  | .hbm, ⟨49, _⟩ => ⟨S52, .f32⟩
  | .hbm, ⟨50, _⟩ => ⟨S1x1x52x1, .f32⟩
  | .hbm, ⟨51, _⟩ => ⟨S_, .f32⟩
  | .hbm, ⟨52, _⟩ => ⟨S3x2, .f32⟩
  | .hbm, ⟨53, _⟩ => ⟨S3x2, .f32⟩
  | .hbm, ⟨54, _⟩ => ⟨S3x1, .f32⟩
  | .hbm, ⟨55, _⟩ => ⟨S3, .f32⟩
  | .hbm, ⟨56, _⟩ => ⟨S1x3x1x1, .f32⟩
  | .hbm, ⟨57, _⟩ => ⟨S3x1, .f32⟩
  | .hbm, ⟨58, _⟩ => ⟨S3, .f32⟩
  | .hbm, ⟨59, _⟩ => ⟨S1x3x1x1, .f32⟩
  | .hbm, ⟨60, _⟩ => ⟨S32x3x52x52, .f32⟩
  | .hbm, ⟨61, _⟩ => ⟨S32x3x52x52, .f32⟩
  | .hbm, ⟨62, _⟩ => ⟨S32x3x52x52, .f32⟩
  | .hbm, ⟨63, _⟩ => ⟨S32x3x52x52, .f32⟩
  | .hbm, ⟨64, _⟩ => ⟨S32x3x52x52, .f32⟩
  | .hbm, ⟨65, _⟩ => ⟨S32x3x52x52, .f32⟩
  | .hbm, ⟨66, _⟩ => ⟨S32x3x52x52, .f32⟩
  | .hbm, ⟨67, _⟩ => ⟨S32x3x52x52, .f32⟩
  | .hbm, ⟨68, _⟩ => ⟨S32x3x52x52, .f32⟩
  | .hbm, ⟨69, _⟩ => ⟨S32x3x52x52, .f32⟩
  | .hbm, ⟨70, _⟩ => ⟨S32x3x52x52x1, .f32⟩
  | .hbm, ⟨71, _⟩ => ⟨S32x3x52x52x1, .f32⟩
  | .hbm, ⟨72, _⟩ => ⟨S32x3x52x52x1, .f32⟩
  | .hbm, ⟨73, _⟩ => ⟨S32x3x52x52x1, .f32⟩
  | .hbm, ⟨74, _⟩ => ⟨S32x3x52x52x4, .f32⟩
  | .hbm, ⟨75, _⟩ => ⟨S32x8112x4, .f32⟩
  | .hbm, ⟨76, _⟩ => ⟨S_, .f32⟩
  | .hbm, ⟨77, _⟩ => ⟨S32x8112x4, .f32⟩
  | .hbm, ⟨78, _⟩ => ⟨S32x8112x4, .f32⟩
  | .hbm, ⟨79, _⟩ => ⟨S32x8112x1, .f32⟩
  | .hbm, ⟨80, _⟩ => ⟨S32x8112x80, .f32⟩
  | .hbm, ⟨81, _⟩ => ⟨S32x8112x85, .f32⟩
  | _, _ => ⟨S32x255x52x52, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_4 : Ref sig .tc := ⟨.hbm, 32, rfl⟩
abbrev main_v26 : Ref sig .tc := ⟨.hbm, 33, rfl⟩
abbrev main_v27 : Ref sig .tc := ⟨.hbm, 34, rfl⟩
abbrev main_cst_5 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_6 : Ref sig .tc := ⟨.hbm, 41, rfl⟩
abbrev main_v33 : Ref sig .tc := ⟨.hbm, 42, rfl⟩
abbrev main_v34 : Ref sig .tc := ⟨.hbm, 43, rfl⟩
abbrev main_cst_7 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_8 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_9 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩

abbrev nD : Nat := 1
abbrev τ : Topo := Topo.v7x

variable {F : FTy → Type} [FloatOps F]
-- ==== Proof.Trip.lean ====
/-
  What one trip of an inner loop of the kernel does, written once.

  A SIGMOID trip takes the word `t`, whose high bits name a channel `ch` of the unit in the buffer and whose low bits a row `i`
  of it, and in four windows of sixteen lanes writes the sigmoid of row `i` of channel `ch` into the column `ch + c0` of the
  staging array. A BOX trip takes a row `i` and in four windows writes the first four columns, from the channels 0 to 3.
  Every inner loop's trip is one of these two, at its own buffer and constants, by definition.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Yolo

open Cert.KernelIdeal Cert.KernelIdeal.Gen
open Idealize.ShloMosaic Idealize.SL.Sem

variable {F : FTy → Type} [FloatOps F]

/-- The shape of an input buffer: seventeen channels of `r` rows of `l` lanes. -/
abbrev Sb (r l : Nat) : Shape := ⟨3, ![17, r, l]⟩

variable {c : Fin τ.nSC} {j : Fin τ.nSub} {r l : Nat}

/-- One scatter of sixteen words into the staging array, with the check that its indices are inside. -/
def put (out : Memref sig .scVector .vmem S416x85 .f32) (row col : IVec S16 32) (v : FVec F S16 .f32) :
    Prog (TpuEff nD τ sig (Elt F) Λ₀ (.scVector c j)) PUnit := do
  have hw : k0_chk33 col row := (← Prog.lift (TpuEff.assume (k0_chk33 col row) (k0_chk33.dec col row))).down
  SparseCore.vectorStoreIdx out ![row, col] v (fun _ => 1#1) false (k0_idx33_inb col row hw) (View.stores_vmem_bits_univ h_S416x85 rfl)

/-- A load of sixteen lanes of a row of a channel. -/
def get (m : Memref sig .scVector .vmem (Sb r l) .f32) (off : Fin 3 → Nat) (inb : ∀ a, off a + S1x1x16.size a ≤ (Sb r l).size a) :
    Prog (TpuEff nD τ sig (Elt F) Λ₀ (.scVector c j)) (Vec F S1x1x16 .f32) :=
  Prog.lift (.load m (Rect.unit (s := Sb r l) off S1x1x16.size inb).toLoadRect (View.loadsAt_vmem h_S1x1x16))

/-- Where a window's load starts: its channel, its row and its first lane. -/
def offV (ch i w : BitVec 32) : Fin 3 → Nat := ![ch.toNat, i.toNat, w.toNat]

/-- Such a window is inside the buffer. -/
theorem offV_inb {ch i w : BitVec 32} (h0 : ch.toNat < 17) (h1 : i.toNat < r) (h2 : w.toNat + 16 ≤ l) :
    ∀ a, offV ch i w a + S1x1x16.size a ≤ (Sb r l).size a
  | 0 => by change ch.toNat + 1 ≤ 17; omega
  | 1 => by change i.toNat + 1 ≤ r; omega
  | 2 => by change w.toNat + 16 ≤ l; omega

/-- The staging row of each lane of the window at `w` of row `i`. -/
def rowV (v2 : IVec S16 32) (i w : BitVec 32) : IVec S16 32 :=
  addi (broadcast S16 (Scalar.muli i 52#32)) (addi (broadcast S16 w) v2)

/-- The sigmoid of sixteen loaded words. -/
def sigV (ld : Vec F S1x1x16 .f32) : FVec F S16 .f32 :=
  divf (broadcast S16 (Scalar.ofBits .f32 0x3F800000#32))
    (addf (broadcast S16 (Scalar.ofBits .f32 0x3F800000#32))
      (exp (subf (broadcast S16 (Scalar.ofBits .f32 0x00000000#32)) (shapeCast S16 ld shapeCasts_S1x1x16_S16))))

/-- The horizontal centre: the sigmoid plus the lane's column, times the stride. -/
def cxV (v2 : IVec S16 32) (w : BitVec 32) (ld : Vec F S1x1x16 .f32) : FVec F S16 .f32 :=
  mulf (addf (sigV ld) (sitofp .f32 (addi (broadcast S16 w) v2))) (broadcast S16 (Scalar.ofBits .f32 0x41000000#32))

/-- The vertical centre: the sigmoid plus the row `y`, times the stride. -/
def cyV (y : F .f32) (ld : Vec F S1x1x16 .f32) : FVec F S16 .f32 :=
  mulf (addf (sigV ld) (broadcast S16 y)) (broadcast S16 (Scalar.ofBits .f32 0x41000000#32))

/-- A side of the box: the exponential times the anchor's side `s`, times the stride. -/
def sideV (s : F .f32) (ld : Vec F S1x1x16 .f32) : FVec F S16 .f32 :=
  mulf (mulf (exp (shapeCast S16 ld shapeCasts_S1x1x16_S16)) (broadcast S16 s)) (broadcast S16 (Scalar.ofBits .f32 0x41000000#32))

/-- The column of every lane in a sigmoid trip. -/
def colV (ch c0 : BitVec 32) : IVec S16 32 :=
  addi (broadcast S16 0#32) (broadcast S16 (Scalar.addi ch c0))

/-- One window of a sigmoid trip. -/
def sigWin (out : Memref sig .scVector .vmem S416x85 .f32) (m : Memref sig .scVector .vmem (Sb r l) .f32) (v2 : IVec S16 32)
    (ch i c0 w : BitVec 32) (h : ∀ a, offV ch i w a + S1x1x16.size a ≤ (Sb r l).size a) :
    Prog (TpuEff nD τ sig (Elt F) Λ₀ (.scVector c j)) PUnit := do
  let ld ← get m (offV ch i w) h
  put out (rowV v2 i w) (colV ch c0) (sigV ld)

/-- A sigmoid trip: channel `ch`, row `i`, the buffer's first channel going to column `c0`. -/
def sigTrip (out : Memref sig .scVector .vmem S416x85 .f32) (m : Memref sig .scVector .vmem (Sb r l) .f32) (v2 : IVec S16 32)
    (ch i c0 : BitVec 32) (h0 : ch.toNat < 17) (h1 : i.toNat < r) (h2 : 52 ≤ l) :
    Prog (TpuEff nD τ sig (Elt F) Λ₀ (.scVector c j)) Unit := do
  sigWin out m v2 ch i c0 0#32 (offV_inb h0 h1 (by change 0 + 16 ≤ l; omega))
  sigWin out m v2 ch i c0 16#32 (offV_inb h0 h1 (by change 16 + 16 ≤ l; omega))
  sigWin out m v2 ch i c0 32#32 (offV_inb h0 h1 (by change 32 + 16 ≤ l; omega))
  sigWin out m v2 ch i c0 36#32 (offV_inb h0 h1 (by change 36 + 16 ≤ l; omega))
  pure ⟨⟩

/-- One window of a box trip. -/
def boxWin (out : Memref sig .scVector .vmem S416x85 .f32) (m : Memref sig .scVector .vmem (Sb r l) .f32) (v2 : IVec S16 32)
    (i w : BitVec 32) (y aw ah : F .f32) (h1 : i.toNat < r) (h2 : w.toNat + 16 ≤ l) :
    Prog (TpuEff nD τ sig (Elt F) Λ₀ (.scVector c j)) PUnit := do
  let l0 ← get m (offV 0#32 i w) (offV_inb (by decide) h1 h2)
  let l1 ← get m (offV 1#32 i w) (offV_inb (by decide) h1 h2)
  let l2 ← get m (offV 2#32 i w) (offV_inb (by decide) h1 h2)
  let l3 ← get m (offV 3#32 i w) (offV_inb (by decide) h1 h2)
  put out (rowV v2 i w) (broadcast S16 0#32) (cxV v2 w l0)
  put out (rowV v2 i w) (broadcast S16 1#32) (cyV y l1)
  put out (rowV v2 i w) (broadcast S16 2#32) (sideV aw l2)
  put out (rowV v2 i w) (broadcast S16 3#32) (sideV ah l3)

/-- A box trip: row `i` of the buffer, which is row `y` of the image, with the anchor's sides `aw` and `ah`. -/
def boxTrip (out : Memref sig .scVector .vmem S416x85 .f32) (m : Memref sig .scVector .vmem (Sb r l) .f32) (v2 : IVec S16 32)
    (i : BitVec 32) (y aw ah : F .f32) (h1 : i.toNat < r) (h2 : 52 ≤ l) :
    Prog (TpuEff nD τ sig (Elt F) Λ₀ (.scVector c j)) Unit := do
  boxWin out m v2 i 0#32 y aw ah h1 (by change 0 + 16 ≤ l; omega)
  boxWin out m v2 i 16#32 y aw ah h1 (by change 16 + 16 ≤ l; omega)
  boxWin out m v2 i 32#32 y aw ah h1 (by change 32 + 16 ≤ l; omega)
  boxWin out m v2 i 36#32 y aw ah h1 (by change 36 + 16 ≤ l; omega)
  pure ⟨⟩

/-- The word that trip `k` of a sigmoid loop takes, whose first is `lo`. -/
def tw {n : Nat} (lo : BitVec 32) (k : Fin n) : BitVec 32 := Scalar.addi lo (Scalar.muli (Scf.iv 0#32 1#32 k) 1#32)

/-- The row that trip `k` of a box loop takes. -/
def bw {n : Nat} (k : Fin n) : BitVec 32 := Scalar.addi 0#32 (Scalar.muli (Scf.iv 0#32 1#32 k) 1#32)

end Cert.Proof.Yolo

end
-- ==== Proof.Target.lean ====
/-
  The values: what the kernel leaves at one place of the result, as a function of the input array, and what a scatter leaves.

  The result's row `2704 * a + 52 * i + w` of batch `b` is anchor `a`'s box at row `i` and column `w` of the image; its column `c` is
  computed from channel `85 * a + c` of the input there.
-/
module

public import proofs.«01_k».proof.Proof.Trip

@[expose] public section

noncomputable section

namespace Cert.Proof.Yolo

open Cert.KernelIdeal Cert.KernelIdeal.Gen
open Idealize.ShloMosaic Idealize.SL.Sem

variable {F : FTy → Type} [FloatOps F]

/-- The index of the input array with these coordinates (each taken within its extent). -/
def xIx (b ch i w : Nat) : S32x255x52x52.Idx
  | 0 => ⟨b % 32, Nat.mod_lt _ (by decide)⟩
  | 1 => ⟨ch % 255, Nat.mod_lt _ (by decide)⟩
  | 2 => ⟨i % 52, Nat.mod_lt _ (by decide)⟩
  | 3 => ⟨w % 52, Nat.mod_lt _ (by decide)⟩

/-- The input's element at batch `b`, channel `ch`, row `i`, column `w`. -/
def xAt (x : S32x255x52x52.Idx → F .f32) (b ch i w : Nat) : F .f32 := x (xIx b ch i w)

/-- The sigmoid, as the kernel computes it. -/
def sg (v : F .f32) : F .f32 :=
  FloatOps.divf (FloatOps.ofBits .f32 0x3F800000#32)
    (FloatOps.addf (FloatOps.ofBits .f32 0x3F800000#32) (FloatOps.exp (FloatOps.subf (FloatOps.ofBits .f32 0x00000000#32) v)))

/-- A horizontal centre: the sigmoid plus the column's number `n`, made a float with its lane's, times the stride. -/
def ctr (v : F .f32) (n : Nat) : F .f32 :=
  FloatOps.mulf (FloatOps.addf (sg v) (FloatOps.sitofp .f32 (BitVec.ofNat 32 n))) (FloatOps.ofBits .f32 0x41000000#32)

/-- A vertical centre: the same, the row's number `n` made a float by itself. -/
def ctrY (v : F .f32) (n : Nat) : F .f32 :=
  FloatOps.mulf (FloatOps.addf (sg v) (Scalar.sitofp .f32 (BitVec.ofNat 32 n))) (FloatOps.ofBits .f32 0x41000000#32)

/-- A side: the exponential times the anchor's side `s`, times the stride. -/
def side (s v : F .f32) : F .f32 :=
  FloatOps.mulf (FloatOps.mulf (FloatOps.exp v) s) (FloatOps.ofBits .f32 0x41000000#32)

/-- The anchor's width, in strides, as a polynomial in the anchor's number. -/
def awS (a : BitVec 32) : F .f32 :=
  Scalar.addf (Scalar.ofBits .f32 0x3FA00000#32)
    (Scalar.mulf (Scalar.sitofp .f32 a)
      (Scalar.addf (Scalar.ofBits .f32 0x3D800000#32) (Scalar.mulf (Scalar.ofBits .f32 0x3F300000#32) (Scalar.sitofp .f32 a))))

/-- The anchor's height, in strides, as a polynomial in the anchor's number. -/
def ahS (a : BitVec 32) : F .f32 :=
  Scalar.addf (Scalar.ofBits .f32 0x3FD00000#32)
    (Scalar.mulf (Scalar.sitofp .f32 a)
      (Scalar.subf (Scalar.ofBits .f32 0x40680000#32) (Scalar.mulf (Scalar.ofBits .f32 0x3FC00000#32) (Scalar.sitofp .f32 a))))

/-- Column `c` of anchor `a`'s box at row `i` and column `w` of batch `b`'s image. -/
def cell (x : S32x255x52x52.Idx → F .f32) (b a i w c : Nat) : F .f32 :=
  if c = 0 then ctr (xAt x b (85 * a) i w) w
  else if c = 1 then ctrY (xAt x b (85 * a + 1) i w) i
  else if c = 2 then side (awS (BitVec.ofNat 32 a)) (xAt x b (85 * a + 2) i w)
  else if c = 3 then side (ahS (BitVec.ofNat 32 a)) (xAt x b (85 * a + 3) i w)
  else sg (xAt x b (85 * a + c) i w)

/-- The result's element at batch `b`, row `R`, column `c`. -/
def tgt (x : S32x255x52x52.Idx → F .f32) (b R c : Nat) : F .f32 :=
  cell x b (R / 2704) (R % 2704 / 52) (R % 52) c

/-- The whole result. -/
def result (x : S32x255x52x52.Idx → F .f32) : S32x8112x85.Idx → F .f32 :=
  fun k => tgt x (k 0).val (k 1).val (k 2).val

/-- A fold of conditional writes leaves `t` at a place if every write that hits it writes `t`, and either one hits it or `t` was there. -/
theorem foldl_write {α β ι : Type*} (hit : α → ι → Prop) [∀ k y, Decidable (hit k y)] (v : α → β) (y : ι) (t : β) :
    ∀ (ks : List α) (g : ι → β), (∀ k ∈ ks, hit k y → v k = t) → ((∃ k ∈ ks, hit k y) ∨ g y = t) →
      ks.foldl (fun g k => fun j => if hit k j then v k else g j) g y = t := by
  intro ks
  induction ks with
  | nil => intro g _ h; exact h.elim (fun ⟨k, hk, _⟩ => absurd hk List.not_mem_nil) id
  | cons k ks ih =>
    intro g hv h
    refine ih _ (fun k' hk' => hv k' (List.mem_cons_of_mem _ hk')) ?_
    by_cases hk : hit k y
    · right; show (if hit k y then v k else g y) = t; rw [if_pos hk]; exact hv k List.mem_cons_self hk
    · rcases h with ⟨k', hk', hh⟩ | h
      · rcases List.mem_cons.mp hk' with rfl | hm
        · exact absurd hh hk
        · exact .inl ⟨k', hm, hh⟩
      · right; show (if hit k y then v k else g y) = t; rw [if_neg hk]; exact h

/-- What a scatter of sixteen words into rows `R … R + 15` of column `C` leaves: the array agrees with `G` there and wherever it did. -/
theorem storeIdx_strip (f : Vec F S416x85 .f32) (row col : IVec S16 32) (v : FVec F S16 .f32) (hin) (G : Nat → Nat → F .f32)
    (D : Nat → Nat → Prop) (R C : Nat) (hrow : ∀ x : S16.Idx, (row x).toNat = R + (x 0).val) (hcol : ∀ x, (col x).toNat = C)
    (hv : ∀ x : S16.Idx, v x = G (R + (x 0).val) C) (hf : ∀ y : S416x85.Idx, D (y 0).val (y 1).val → f y = G (y 0).val (y 1).val)
    (y : S416x85.Idx) (hy : D (y 0).val (y 1).val ∨ ((y 1).val = C ∧ R ≤ (y 0).val ∧ (y 0).val < R + 16)) :
    storeIdx (F := F) (e := .f32) f ![row, col] v (fun _ => 1#1) false hin y = G (y 0).val (y 1).val := by
  have key := foldl_write (fun (k : Fin 16) (y : S416x85.Idx) => ∀ a, (y a).val = (idxAt (s := S416x85) ![row, col] hin (Shape.ofLane k) a).val)
    (fun k => v (Shape.ofLane k)) y (G (y 0).val (y 1).val) (List.finRange 16) f ?_ ?_
  · unfold storeIdx
    simp only [show ((1#1 : BitVec 1) = 1) = True from eq_self 1, if_true, Bool.false_eq_true, if_false]
    exact key
  · intro k _ hk
    have h0 : (y 0).val = (row (Shape.ofLane k)).toNat := hk 0
    have h1 : (y 1).val = (col (Shape.ofLane k)).toNat := hk 1
    rw [hv, h0, h1, hrow, hcol]
  · rcases hy with h | ⟨h1, h2, h3⟩
    · exact .inr (hf y h)
    · refine .inl ⟨⟨(y 0).val - R, by omega⟩, List.mem_finRange _, fun a => ?_⟩
      match a with
      | 0 => show (y 0).val = (row (Shape.ofLane (⟨(y 0).val - R, _⟩ : Fin 16))).toNat
             rw [hrow]; show (y 0).val = R + ((y 0).val - R); omega
      | 1 => show (y 1).val = (col _).toNat; rw [hcol, h1]

/-- The rows a window names: row `i` of the unit, lanes from `w`. -/
theorem rowV_toNat {v2 : IVec S16 32} (hv2 : ∀ x : S16.Idx, v2 x = BitVec.ofNat 32 (x 0).val) {i w : BitVec 32} (hi : i.toNat < 8) (hw : w.toNat ≤ 36)
    (x : S16.Idx) : (rowV v2 i w x).toNat = 52 * i.toNat + w.toNat + (x 0).val := by
  have hx : (x 0).val < 16 := (x 0).isLt
  show (i * 52#32 + (w + v2 x)).toNat = _
  rw [hv2, BitVec.toNat_add, BitVec.toNat_mul, BitVec.toNat_add, BitVec.toNat_ofNat, BitVec.toNat_ofNat]
  omega

/-- The columns a window names. -/
theorem colV_toNat {ch c0 : BitVec 32} (h : ch.toNat + c0.toNat < 85) (x : S16.Idx) : (colV ch c0 x).toNat = ch.toNat + c0.toNat := by
  show (0#32 + (ch + c0)).toNat = _
  rw [BitVec.toNat_add, BitVec.toNat_add, BitVec.toNat_ofNat]
  omega

/-- The lane's own column of the image, as a word. -/
theorem lane_word {v2 : IVec S16 32} (hv2 : ∀ x : S16.Idx, v2 x = BitVec.ofNat 32 (x 0).val) {w : BitVec 32} (x : S16.Idx) :
    addi (broadcast S16 w) v2 x = BitVec.ofNat 32 (w.toNat + (x 0).val) := by
  show w + v2 x = _
  rw [hv2]; apply BitVec.eq_of_toNat_eq; simp

end Cert.Proof.Yolo

end
-- ==== Proof.Setup.lean ====
/-
  The ground the run stands on: the program, the resources, the buffers, and two assertions about a tile's buffers that carry values:
  what an input buffer reads (`inB`) and which places of the staging array are already right (`outB`).
-/
module

public import proofs.«01_k».proof.Proof.Target
public import Idealize.ShloMosaic.Lib.Pipeline.Value

@[expose] public section

noncomputable section

namespace Cert.Proof.Yolo

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev ΛP : Labels := Pipeline.Sig Λ₀ (Fin 0) fun p => (pcfgs (F := F) p).Adm
abbrev K : SparseCore.Cfg τ sig (ΛP (F := F)) 1 := sc (F := F)
abbrev D₁ : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The lanes' numbers. -/
abbrev lanes : IVec S16 32 := iota .scVector S16 32 [0] iota_S16_d0_w32_scVector

theorem lanes_apply (x : S16.Idx) : lanes x = BitVec.ofNat 32 (x 0).val := by
  show BitVec.ofNat 32 (0 * 16 + (x 0).val) = _
  rw [Nat.zero_mul, Nat.zero_add]

/-- The kernel's memrefs: the input and the result arrays, the two input buffers, the tail's input buffer and the staging array. -/
abbrev xV : Memref sig .scVector .hbm S32x255x52x52 .f32 := Memref.whole main_arg0_scv
abbrev oV : Memref sig .scVector .hbm S32x8112x85 .f32 := Memref.whole main_v0_scv
abbrev bA : Memref sig .scVector .vmem S17x8x128 .f32 := Memref.whole cc0_scratch0
abbrev bB : Memref sig .scVector .vmem S17x8x128 .f32 := Memref.whole cc0_scratch1
abbrev bT : Memref sig .scVector .vmem S17x4x52 .f32 := Memref.whole cc0_scratch2
abbrev bO : Memref sig .scVector .vmem S416x85 .f32 := Memref.whole cc0_scratch3

section Tile

variable (d : Dev nD) (c : Fin τ.nSC) (j : Fin τ.nSub)

/-- The buffer of `m` is the tile's, and lane `w < 52` of row `i` of channel `ch` holds `A ch i w`. -/
def inB {r l : Nat} (m : Memref sig .scVector .vmem (Sb r l) .f32) (A : Nat → Nat → Nat → F .f32) : sProp 𝕄 :=
  iprop(∃ f : Buf (Elt F) (m.view.loc (V d c j)), (m.view.loc (V d c j) ↦[m.view.set]{fullShare} f)
    ∗ ⌜∀ x : (Sb r l).Idx, (x 2).val < 52 → m.view.read (Elt F) f x = A (x 0).val (x 1).val (x 2).val⌝)

/-- The staging array is the tile's, and holds `G` at every place in `Dn`. -/
def outB (G : Nat → Nat → F .f32) (Dn : Nat → Nat → Prop) : sProp 𝕄 :=
  iprop(∃ f : Vec F S416x85 .f32, (bO.view.loc (V d c j) ↦{fullShare} f)
    ∗ ⌜∀ y : S416x85.Idx, Dn (y 0).val (y 1).val → f y = G (y 0).val (y 1).val⌝)

variable {d c j}

theorem outB_mono {G : Nat → Nat → F .f32} {D₁ D₂ : Nat → Nat → Prop} (h : ∀ a b, D₂ a b → D₁ a b) :
    outB d c j G D₁ ⊢ outB d c j G D₂ := by
  unfold outB
  iintro ⟨%f, H, %hf⟩
  iexists f; isplitl [H]; · iexact H
  ipureintro; exact fun y hy => hf y (h _ _ hy)

/-- Two targets that agree where the work is done are as good as each other. -/
theorem outB_congr {G G' : Nat → Nat → F .f32} {D₁ : Nat → Nat → Prop} (h : ∀ a b, D₁ a b → G a b = G' a b) :
    outB d c j G D₁ ⊢ outB d c j G' D₁ := by
  unfold outB
  iintro ⟨%f, H, %hf⟩
  iexists f; isplitl [H]; · iexact H
  ipureintro; exact fun y hy => (hf y hy).trans (h _ _ hy)

/-! ## One load, one scatter -/

variable {α : Type}

theorem get_wp {r l : Nat} {m : Memref sig .scVector .vmem (Sb r l) .f32} {A : Nat → Nat → Nat → F .f32} {ch i w : BitVec 32} {inb}
    (hw : w.toNat ≤ 36) (k : Vec F S1x1x16 .f32 → Prog (TpuEff nD τ sig (Elt F) Λ₀ (.scVector c j)) α) (Q : α → sProp 𝕄) :
    inB d c j m A ⊢ iprop((∀ ld, ⌜∀ x : S16.Idx, shapeCast S16 ld shapeCasts_S1x1x16_S16 x = A ch.toNat i.toNat (w.toNat + (x 0).val)⌝
        -∗ inB d c j m A -∗ wp frame (wpE (defs₀ (F := F)) 𝒱₀ (V d c j) none) Set.univ (k ld) Q)
      -∗ wp frame (wpE (defs₀ (F := F)) 𝒱₀ (V d c j) none) Set.univ (get m (offV ch i w) inb >>= k) Q) := by
  unfold inB
  iintro ⟨%f, H, %hf⟩ Hk
  iapply (wp_load_rect (defs := defs₀ (F := F)) 𝒱₀ (V d c j) none Set.univ (Q := Q) (m := m)
    (r := Rect.unit (s := Sb r l) (offV ch i w) S1x1x16.size inb) (hl := View.loadsAt_vmem h_S1x1x16) (k := k)
    (S := m.view.set) (q := fullShare) (f := f) (View.set_slice_subset _ _)) $$ H
  iintro H
  iapply Hk $$ %_ [] [H]
  · ipureintro
    intro x
    have hx : (x 0).val < 16 := (x 0).isLt
    refine (shapeCast_apply (s := S1x1x16) (t := S16) _ _ x (fun | 0 => ⟨0, by decide⟩ | 1 => ⟨0, by decide⟩ | 2 => ⟨(x 0).val, hx⟩) ?_).trans ?_
    · rw [Shape.rowMajor_val_three, Shape.rowMajor_val_one]
      show (0 * 1 + 0) * 16 + (x 0).val = (x 0).val
      omega
    · refine (hf _ ?_).trans ?_
      · show w.toNat + 1 * (x 0).val < 52; omega
      · show A (ch.toNat + 1 * 0) (i.toNat + 1 * 0) (w.toNat + 1 * (x 0).val) = _
        simp only [Nat.mul_zero, Nat.add_zero, Nat.one_mul]
  · iexists f; isplitl [H]; · iexact H
    ipureintro; exact hf

theorem put_wp {G : Nat → Nat → F .f32} {Dn : Nat → Nat → Prop} {row col : IVec S16 32} {v : FVec F S16 .f32} (R C : Nat) (hR : R + 16 ≤ 416) (hC : C < 85)
    (hrow : ∀ x : S16.Idx, (row x).toNat = R + (x 0).val) (hcol : ∀ x, (col x).toNat = C) (hv : ∀ x : S16.Idx, v x = G (R + (x 0).val) C)
    (k : PUnit → Prog (TpuEff nD τ sig (Elt F) Λ₀ (.scVector c j)) α) (Q : α → sProp 𝕄) :
    outB d c j G Dn ⊢ iprop((outB d c j G (fun a b => Dn a b ∨ (b = C ∧ R ≤ a ∧ a < R + 16))
        -∗ wp frame (wpE (defs₀ (F := F)) 𝒱₀ (V d c j) none) Set.univ (k ⟨⟩) Q)
      -∗ wp frame (wpE (defs₀ (F := F)) 𝒱₀ (V d c j) none) Set.univ (put bO row col v >>= k) Q) := by
  have hchk : k0_chk33 col row := by
    intro a x
    have hx : (x 0).val < 16 := (x 0).isLt
    match a with
    | 0 => show (row x).toNat < 416; rw [hrow]; omega
    | 1 => show (col x).toNat < 85; rw [hcol]; exact hC
  have hst : (bO.access (.whole S416x85)).Stores Finset.univ := View.stores_vmem_bits_univ h_S416x85 rfl
  have step := fun f : Vec F S416x85 .f32 => SparseCore.wp_vectorStoreIdx (defs := defs₀ (F := F)) 𝒱₀ (V d c j) none Set.univ (Q := Q) (base := bO)
    (idxs := ![row, col]) (v := v) (mask := fun _ => 1#1) (add := false) (h := k0_idx33_inb col row hchk) (hs := hst) (k := k) (f := f)
  have hset : (bO.access (.whole S416x85)).set = Finset.univ := Memref.set_access_whole cc0_scratch3
  have hrd : ∀ f : Vec F S416x85 .f32, (bO.access (.whole S416x85)).read (Elt F) f = f := Memref.read_access_whole (Elt F) cc0_scratch3
  have hwr : ∀ f w : Vec F S416x85 .f32, (bO.access (.whole S416x85)).write (Elt F) f w Finset.univ = w := Memref.write_access_whole_univ (Elt F) cc0_scratch3
  simp only [hset, hrd, hwr] at step
  unfold outB
  iintro ⟨%f, H, %hf⟩ Hk
  iapply (wp_assume (defs := defs₀ (F := F)) 𝒱₀ (V d c j) none Set.univ (Q := Q) hchk)
  iapply (step f) $$ H
  iintro H
  iapply Hk
  iexists _
  isplitl [H]
  · iexact H
  ipureintro
  exact fun y hy => storeIdx_strip f row col v _ G Dn R C hrow hcol hv hf y hy

end Tile

end Cert.Proof.Yolo

end
-- ==== Proof.Windows.lean ====
/-
  The trips of the inner loops: each takes an input buffer that reads `A` and a staging array right at `Dn`, and leaves the staging
  array right at one more strip of it as well — one column of one row of the image for a sigmoid trip, the first four columns for a
  box trip.
-/
module

public import proofs.«01_k».proof.Proof.Setup

@[expose] public section

noncomputable section

namespace Cert.Proof.Yolo

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable {d : Dev nD} {c : Fin τ.nSC} {j : Fin τ.nSub} {α : Type} {r l : Nat} {m : Memref sig .scVector .vmem (Sb r l) .f32}
  {A : Nat → Nat → Nat → F .f32} {G : Nat → Nat → F .f32} {Dn : Nat → Nat → Prop}

/-- A window of a sigmoid trip. -/
theorem sigWin_wp {ch i c0 w : BitVec 32} {h} (hi : i.toNat < 8) (hw : w.toNat ≤ 36) (hC : ch.toNat + c0.toNat < 85)
    (hG : ∀ n < 52, G (52 * i.toNat + n) (ch.toNat + c0.toNat) = sg (A ch.toNat i.toNat n))
    (k : PUnit → Prog (TpuEff nD τ sig (Elt F) Λ₀ (.scVector c j)) α) (Q : α → sProp 𝕄) :
    iprop(inB d c j m A ∗ outB d c j G Dn) ⊢ iprop((inB d c j m A
          -∗ outB d c j G (fun a b => Dn a b ∨ (b = ch.toNat + c0.toNat ∧ 52 * i.toNat + w.toNat ≤ a ∧ a < 52 * i.toNat + w.toNat + 16))
          -∗ wp frame (wpE (defs₀ (F := F)) 𝒱₀ (V d c j) none) Set.univ (k ⟨⟩) Q)
      -∗ wp frame (wpE (defs₀ (F := F)) 𝒱₀ (V d c j) none) Set.univ (sigWin bO m lanes ch i c0 w h >>= k) Q) := by
  unfold sigWin
  rw [Prog.bind_assoc]
  iintro ⟨Hin, Hout⟩ Hk
  iapply (get_wp hw) $$ Hin
  iintro %ld %hld Hin
  iapply (put_wp (52 * i.toNat + w.toNat) (ch.toNat + c0.toNat) (by omega) hC
    (rowV_toNat lanes_apply hi hw) (colV_toNat hC) ?_) $$ Hout
  · intro x
    have hx : (x 0).val < 16 := (x 0).isLt
    rw [Nat.add_assoc, hG _ (by omega), ← hld]
    rfl
  iintro Hout
  iapply Hk $$ Hin
  iexact Hout

/-- A sigmoid trip: column `ch + c0` of the rows of image row `i`. -/
theorem sigTrip_wp {ch i c0 : BitVec 32} {h0 h1 h2} (hi : i.toNat < 8) (hC : ch.toNat + c0.toNat < 85)
    (hG : ∀ n < 52, G (52 * i.toNat + n) (ch.toNat + c0.toNat) = sg (A ch.toNat i.toNat n)) :
    iprop(inB d c j m A ∗ outB d c j G Dn) ⊢ wp frame (wpE (defs₀ (F := F)) 𝒱₀ (V d c j) none) Set.univ (sigTrip bO m lanes ch i c0 h0 h1 h2)
      fun _ => iprop(inB d c j m A
        ∗ outB d c j G (fun a b => Dn a b ∨ (b = ch.toNat + c0.toNat ∧ 52 * i.toNat ≤ a ∧ a < 52 * i.toNat + 52))) := by
  unfold sigTrip
  iintro ⟨Hin, Hout⟩
  iapply (sigWin_wp hi (by decide) hC hG) $$ [$Hin $Hout]; iintro Hin Hout
  iapply (sigWin_wp hi (by decide) hC hG) $$ [$Hin $Hout]; iintro Hin Hout
  iapply (sigWin_wp hi (by decide) hC hG) $$ [$Hin $Hout]; iintro Hin Hout
  iapply (sigWin_wp hi (by decide) hC hG) $$ [$Hin $Hout]; iintro Hin Hout
  sl_step
  isplitl [Hin]; · iexact Hin
  iapply (outB_mono ?_) $$ Hout
  rintro a b (h | h)
  · simp only [h, true_or]
  · simp only [BitVec.toNat_ofNat]
    omega

/-- A window of a box trip: columns 0 to 3 of sixteen rows. -/
theorem boxWin_wp {i w : BitVec 32} {y aw ah : F .f32} {h1 h2} (hi : i.toNat < 8) (hw : w.toNat ≤ 36)
    (hG : ∀ n < 52, G (52 * i.toNat + n) 0 = ctr (A 0 i.toNat n) n
      ∧ G (52 * i.toNat + n) 1 = FloatOps.mulf (FloatOps.addf (sg (A 1 i.toNat n)) y) (FloatOps.ofBits .f32 0x41000000#32)
      ∧ G (52 * i.toNat + n) 2 = side aw (A 2 i.toNat n) ∧ G (52 * i.toNat + n) 3 = side ah (A 3 i.toNat n))
    (k : PUnit → Prog (TpuEff nD τ sig (Elt F) Λ₀ (.scVector c j)) α) (Q : α → sProp 𝕄) :
    iprop(inB d c j m A ∗ outB d c j G Dn) ⊢ iprop((inB d c j m A
          -∗ outB d c j G (fun a b => Dn a b ∨ (b < 4 ∧ 52 * i.toNat + w.toNat ≤ a ∧ a < 52 * i.toNat + w.toNat + 16))
          -∗ wp frame (wpE (defs₀ (F := F)) 𝒱₀ (V d c j) none) Set.univ (k ⟨⟩) Q)
      -∗ wp frame (wpE (defs₀ (F := F)) 𝒱₀ (V d c j) none) Set.univ (boxWin bO m lanes i w y aw ah h1 h2 >>= k) Q) := by
  unfold boxWin
  simp only [Prog.bind_assoc]
  iintro ⟨Hin, Hout⟩ Hk
  iapply (get_wp hw) $$ Hin; iintro %ld0 %hld0 Hin
  iapply (get_wp hw) $$ Hin; iintro %ld1 %hld1 Hin
  iapply (get_wp hw) $$ Hin; iintro %ld2 %hld2 Hin
  iapply (get_wp hw) $$ Hin; iintro %ld3 %hld3 Hin
  have hrow := rowV_toNat lanes_apply hi hw
  have hx : ∀ x : S16.Idx, w.toNat + (x 0).val < 52 := fun x => by have hx : (x 0).val < 16 := (x 0).isLt; omega
  iapply (put_wp (52 * i.toNat + w.toNat) 0 (by omega) (by omega) hrow (fun _ => rfl) ?_) $$ Hout
  · intro x
    rw [Nat.add_assoc, (hG _ (hx x)).1, ← show _ = A 0 _ _ from hld0 x, ctr, ← lane_word lanes_apply]
    rfl
  iintro Hout
  iapply (put_wp (52 * i.toNat + w.toNat) 1 (by omega) (by omega) hrow (fun _ => rfl) ?_) $$ Hout
  · intro x
    rw [Nat.add_assoc, (hG _ (hx x)).2.1, ← show _ = A 1 _ _ from hld1 x]
    rfl
  iintro Hout
  iapply (put_wp (52 * i.toNat + w.toNat) 2 (by omega) (by omega) hrow (fun _ => rfl) ?_) $$ Hout
  · intro x
    rw [Nat.add_assoc, (hG _ (hx x)).2.2.1, ← show _ = A 2 _ _ from hld2 x]
    rfl
  iintro Hout
  iapply (put_wp (52 * i.toNat + w.toNat) 3 (by omega) (by omega) hrow (fun _ => rfl) ?_) $$ Hout
  · intro x
    rw [Nat.add_assoc, (hG _ (hx x)).2.2.2, ← show _ = A 3 _ _ from hld3 x]
    rfl
  iintro Hout
  iapply Hk $$ Hin
  iapply (outB_mono ?_) $$ Hout
  rintro a b (h | h)
  · simp only [h, true_or]
  · omega

/-- A box trip: columns 0 to 3 of the rows of image row `i` of the unit. -/
theorem boxTrip_wp {i : BitVec 32} {y aw ah : F .f32} {h1 h2} (hi : i.toNat < 8)
    (hG : ∀ n < 52, G (52 * i.toNat + n) 0 = ctr (A 0 i.toNat n) n
      ∧ G (52 * i.toNat + n) 1 = FloatOps.mulf (FloatOps.addf (sg (A 1 i.toNat n)) y) (FloatOps.ofBits .f32 0x41000000#32)
      ∧ G (52 * i.toNat + n) 2 = side aw (A 2 i.toNat n) ∧ G (52 * i.toNat + n) 3 = side ah (A 3 i.toNat n)) :
    iprop(inB d c j m A ∗ outB d c j G Dn) ⊢ wp frame (wpE (defs₀ (F := F)) 𝒱₀ (V d c j) none) Set.univ (boxTrip bO m lanes i y aw ah h1 h2)
      fun _ => iprop(inB d c j m A
        ∗ outB d c j G (fun a b => Dn a b ∨ (b < 4 ∧ 52 * i.toNat ≤ a ∧ a < 52 * i.toNat + 52))) := by
  unfold boxTrip
  iintro ⟨Hin, Hout⟩
  iapply (boxWin_wp hi (by decide) hG) $$ [$Hin $Hout]; iintro Hin Hout
  iapply (boxWin_wp hi (by decide) hG) $$ [$Hin $Hout]; iintro Hin Hout
  iapply (boxWin_wp hi (by decide) hG) $$ [$Hin $Hout]; iintro Hin Hout
  iapply (boxWin_wp hi (by decide) hG) $$ [$Hin $Hout]; iintro Hin Hout
  sl_step
  isplitl [Hin]; · iexact Hin
  iapply (outB_mono ?_) $$ Hout
  rintro a b (h | h)
  · simp only [h, true_or]
  · simp only [BitVec.toNat_ofNat]
    omega

end Cert.Proof.Yolo

end
-- ==== Proof.Loops.lean ====
/-
  The inner loops. The staging array is filled by units of seventeen channels of `r` image rows; how far it is filled is one number,
  `Done r T`: column `b` of image row `i` is right once `b * r + i < T`. A unit's sigmoid loop takes `T` up by its trips; the box loop
  starts it at the first four columns.
-/
module

public import proofs.«01_k».proof.Proof.Windows

@[expose] public section

noncomputable section

namespace Cert.Proof.Yolo

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable {d : Dev nD} {c : Fin τ.nSC} {j : Fin τ.nSub} {α : Type} {r l : Nat} {m : Memref sig .scVector .vmem (Sb r l) .f32}
  {A : Nat → Nat → Nat → F .f32} {G : Nat → Nat → F .f32}

/-- The places of the staging array that are right after `T` column rows of `r` image rows. -/
def Done (r T : Nat) (a b : Nat) : Prop := a < 52 * r ∧ b * r + a / 52 < T

/-- The first four columns of the first `i` image rows. -/
def Box (i : Nat) (a b : Nat) : Prop := b < 4 ∧ a < 52 * i

/-- The trip's word. -/
theorem tw_toNat {n : Nat} (lo : BitVec 32) (k : Fin n) (hlo : lo.toNat ≤ 1000) (hn : n ≤ 1000) : (tw lo k).toNat = lo.toNat + k.val := by
  have hk := k.isLt
  show (lo + (0#32 + BitVec.ofNat 32 k.val * 1#32) * 1#32).toNat = _
  simp only [BitVec.mul_one, BitVec.zero_add, BitVec.toNat_add, BitVec.toNat_ofNat]
  omega

theorem bw_toNat {n : Nat} (k : Fin n) (hn : n ≤ 1000) : (bw k).toNat = k.val := by
  have := tw_toNat 0#32 k (by decide) hn
  rw [BitVec.toNat_ofNat, Nat.zero_mod, Nat.zero_add] at this
  exact this

/-- A word of the trip in its channel and its row. -/
theorem split_word {r : Nat} {sh msk : BitVec 32} (hr : (r = 8 ∧ sh = 3#32 ∧ msk = 7#32) ∨ (r = 4 ∧ sh = 2#32 ∧ msk = 3#32)) (t : BitVec 32) :
    (Scalar.shrui t sh).toNat = t.toNat / r ∧ (Scalar.andi t msk).toNat = t.toNat % r := by
  rcases hr with ⟨rfl, rfl, rfl⟩ | ⟨rfl, rfl, rfl⟩
  · refine ⟨?_, ?_⟩
    · show (t >>> (3#32).toNat).toNat = _
      rw [BitVec.toNat_ushiftRight, Nat.shiftRight_eq_div_pow]; rfl
    · show (t &&& 7#32).toNat = _
      rw [BitVec.toNat_and]; exact Nat.and_two_pow_sub_one_eq_mod _ 3
  · refine ⟨?_, ?_⟩
    · show (t >>> (2#32).toNat).toNat = _
      rw [BitVec.toNat_ushiftRight, Nat.shiftRight_eq_div_pow]; rfl
    · show (t &&& 3#32).toNat = _
      rw [BitVec.toNat_and]; exact Nat.and_two_pow_sub_one_eq_mod _ 2

/-- A unit's sigmoid loop: from `T₀` column rows to `T₀ + n`, its trips being those of the words `lo … lo + n - 1`. -/
theorem sigLoop_wp (q : Nat) (hq : q < 5) {sh msk lo c0 : BitVec 32}
    (hr : (r = 8 ∧ sh = 3#32 ∧ msk = 7#32) ∨ (r = 4 ∧ sh = 2#32 ∧ msk = 3#32)) (hl : 52 ≤ l)
    (hc0 : c0.toNat = 17 * q) (lp : Scf.Loop 32) (hlp : lo.toNat + lp.trips = 17 * r) (hlo : 4 * r ≤ 17 * q * r + lo.toNat) (hok : lp.OK)
    (body : Fin lp.trips → Unit → Prog (TpuEff nD τ sig (Elt F) Λ₀ (.scVector c j)) Unit)
    (hb : ∀ k u h0 h1, body k u = sigTrip bO m lanes (Scalar.shrui (tw lo k) sh) (Scalar.andi (tw lo k) msk) c0 h0 h1 hl)
    (hG : ∀ ch < 17, 4 ≤ 17 * q + ch → ∀ i < r, ∀ n < 52, G (52 * i + n) (17 * q + ch) = sg (A ch i n))
    (T₀ T₁ : Nat) (hT₀ : T₀ = 17 * q * r + lo.toNat) (hT₁ : T₁ = 17 * (q + 1) * r)
    (k : Unit → Prog (TpuEff nD τ sig (Elt F) Λ₀ (.scVector c j)) α) (Q : α → sProp 𝕄) :
    iprop(inB d c j m A ∗ outB d c j G (Done r T₀)) ⊢ iprop((inB d c j m A -∗ outB d c j G (Done r T₁)
          -∗ wp frame (wpE (defs₀ (F := F)) 𝒱₀ (V d c j) none) Set.univ (k ⟨⟩) Q)
      -∗ wp frame (wpE (defs₀ (F := F)) 𝒱₀ (V d c j) none) Set.univ (Scf.Loop.for lp hok ⟨⟩ body >>= k) Q) := by
  have hr8 : r = 8 ∨ r = 4 := hr.imp (fun h => h.1) (fun h => h.1)
  have hstep : ∀ (t : Fin lp.trips) (u : Unit),
      iprop(inB d c j m A ∗ outB d c j G (Done r (T₀ + t.val)))
        ⊢ wp frame (wpE (defs₀ (F := F)) 𝒱₀ (V d c j) none) Set.univ (body t u)
          fun _ => iprop(inB d c j m A ∗ outB d c j G (Done r (T₀ + (t.val + 1)))) := by
    intro t u
    have ht := t.isLt
    have htw : (tw lo t).toNat = lo.toNat + t.val := tw_toNat lo t (by rcases hr8 with rfl | rfl <;> omega) (by rcases hr8 with rfl | rfl <;> omega)
    obtain ⟨hs, ha⟩ := split_word hr (tw lo t)
    rw [htw] at hs ha
    have h0 : (Scalar.shrui (tw lo t) sh).toNat < 17 := by rw [hs]; rcases hr8 with rfl | rfl <;> omega
    have h1 : (Scalar.andi (tw lo t) msk).toNat < r := by rw [ha]; rcases hr8 with rfl | rfl <;> omega
    rw [hb t u h0 h1]
    have h8 : (Scalar.andi (tw lo t) msk).toNat < 8 := by rcases hr8 with rfl | rfl <;> omega
    refine (sigTrip_wp h8 (by omega) ?_).trans (wp_mono _ _ _ fun _ => ?_)
    · intro n hn
      rw [Nat.add_comm (BitVec.toNat _) c0.toNat, hc0]
      refine hG _ h0 ?_ _ h1 n hn
      rw [hs]; rcases hr8 with rfl | rfl <;> omega
    · iintro ⟨Hin, Hout⟩
      isplitl [Hin]; · iexact Hin
      iapply (outB_mono ?_) $$ Hout
      intro a b
      unfold Done
      rw [hs, ha, hc0, hT₀]
      rcases hr8 with rfl | rfl <;> omega
  iintro ⟨Hin, Hout⟩ Hk
  iapply (Scf.wp_for_bind frame (wpE (defs₀ (F := F)) 𝒱₀ (V d c j) none) Set.univ lp.lb lp.ub lp.st hok ⟨⟩ body
    (fun t _ => iprop(inB d c j m A ∗ outB d c j G (Done r (T₀ + t)))) hstep) $$ [Hin Hout]
  · isplitl [Hin]; · iexact Hin
    iexact Hout
  iintro %_ ⟨Hin, Hout⟩
  iapply Hk $$ Hin
  iapply (outB_mono ?_) $$ Hout
  intro a b
  unfold Done
  have : lo.toNat + Scf.trips lp.lb lp.ub lp.st = 17 * r := hlp
  rcases hr8 with rfl | rfl <;> omega

/-- The box loop: the first four columns of the unit's `r` image rows, which are rows `y0 …` of the image. -/
theorem boxLoop_wp (hr : r = 8 ∨ r = 4) (hl : 52 ≤ l) {yw : BitVec 32} {aw ah : F .f32} (lp : Scf.Loop 32) (hlp : lp.trips = r) (hok : lp.OK)
    (body : Fin lp.trips → Unit → Prog (TpuEff nD τ sig (Elt F) Λ₀ (.scVector c j)) Unit)
    (hb : ∀ k u h1, body k u = boxTrip bO m lanes (bw k) (Scalar.sitofp .f32 (Scalar.addi yw (bw k))) aw ah h1 hl)
    (y0 : Nat) (hy : yw = BitVec.ofNat 32 y0)
    (hG : ∀ i < r, ∀ n < 52, G (52 * i + n) 0 = ctr (A 0 i n) n ∧ G (52 * i + n) 1 = ctrY (A 1 i n) (y0 + i)
      ∧ G (52 * i + n) 2 = side aw (A 2 i n) ∧ G (52 * i + n) 3 = side ah (A 3 i n))
    (T₁ : Nat) (hT₁ : T₁ = 4 * r)
    (k : Unit → Prog (TpuEff nD τ sig (Elt F) Λ₀ (.scVector c j)) α) (Q : α → sProp 𝕄) :
    iprop(inB d c j m A ∗ outB d c j G (fun _ _ => False)) ⊢ iprop((inB d c j m A -∗ outB d c j G (Done r T₁)
          -∗ wp frame (wpE (defs₀ (F := F)) 𝒱₀ (V d c j) none) Set.univ (k ⟨⟩) Q)
      -∗ wp frame (wpE (defs₀ (F := F)) 𝒱₀ (V d c j) none) Set.univ (Scf.Loop.for lp hok ⟨⟩ body >>= k) Q) := by
  have hstep : ∀ (t : Fin lp.trips) (u : Unit),
      iprop(inB d c j m A ∗ outB d c j G (Box t.val))
        ⊢ wp frame (wpE (defs₀ (F := F)) 𝒱₀ (V d c j) none) Set.univ (body t u)
          fun _ => iprop(inB d c j m A ∗ outB d c j G (Box (t.val + 1))) := by
    intro t u
    have ht := t.isLt
    have htw : (bw t).toNat = t.val := bw_toNat t (by omega)
    have h1 : (bw t).toNat < r := by omega
    rw [hb t u h1]
    refine (boxTrip_wp (by omega) ?_).trans (wp_mono _ _ _ fun _ => ?_)
    · intro n hn
      obtain ⟨g0, g1, g2, g3⟩ := hG _ h1 n hn
      refine ⟨g0, g1.trans ?_, g2, g3⟩
      unfold ctrY
      rw [show Scalar.addi yw (bw t) = BitVec.ofNat 32 (y0 + (bw t).toNat) from ?_]
      subst hy; show BitVec.ofNat 32 y0 + bw t = _
      rw [BitVec.ofNat_add, BitVec.ofNat_toNat, BitVec.setWidth_eq]
    · iintro ⟨Hin, Hout⟩
      isplitl [Hin]; · iexact Hin
      iapply (outB_mono ?_) $$ Hout
      intro a b
      unfold Box
      omega
  iintro ⟨Hin, Hout⟩ Hk
  iapply (Scf.wp_for_bind frame (wpE (defs₀ (F := F)) 𝒱₀ (V d c j) none) Set.univ lp.lb lp.ub lp.st hok ⟨⟩ body
    (fun t _ => iprop(inB d c j m A ∗ outB d c j G (Box t))) hstep) $$ [Hin Hout]
  · isplitl [Hin]; · iexact Hin
    iapply (outB_mono ?_) $$ Hout
    unfold Box
    omega
  iintro %_ ⟨Hin, Hout⟩
  iapply Hk $$ Hin
  iapply (outB_mono ?_) $$ Hout
  intro a b
  have : Scf.trips lp.lb lp.ub lp.st = r := hlp
  unfold Box Done
  rcases hr with rfl | rfl <;> omega

end Cert.Proof.Yolo

end
-- ==== Proof.Copies.lean ====
/-
  The copies. A tile owns its batch of the input (`xOwn`) and its batch of the result, right up to a row (`outD`). A copy in brings a
  window of the batch into a buffer, a copy out takes the staging array to the next rows of the result; each is in flight from its
  issue to its wait (`Transfers.Flight`), and meanwhile the flight holds what the copy was lent.
-/
module

public import proofs.«01_k».proof.Proof.Loops

@[expose] public section

noncomputable section

namespace Cert.Proof.Yolo

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The transfers' counters. -/
abbrev EC : UEmb Counters (MT nD τ sig (HIx 1) (Elt F) ℕ UU ℕ) := countersEmb

/-- The index the tile's waits are held at. -/
abbrev ι₀ : HIx 1 := default

/-- Batch `b` of the input array and of the result array. -/
def xSet (b : Nat) : Finset S32x255x52x52.Idx := Finset.univ.filter fun y => (y 0).val = b
def oSet (b : Nat) : Finset S32x8112x85.Idx := Finset.univ.filter fun y => (y 0).val = b

section Tile

variable (d : Dev nD) (c : Fin τ.nSC) (j : Fin τ.nSub)

/-- The tile's batch of the input, whole. -/
def xOwn (x : S32x255x52x52.Idx → F .f32) (b : Nat) : sProp 𝕄 := iprop(xV.view.loc (V d c j) ↦[xSet b]{fullShare} x)

/-- The tile's batch of the result, its rows below `R` being what they shall be. -/
def outD (x : S32x255x52x52.Idx → F .f32) (b R : Nat) : sProp 𝕄 :=
  iprop(∃ g : S32x8112x85.Idx → F .f32, (oV.view.loc (V d c j) ↦[oSet b]{fullShare} g)
    ∗ ⌜∀ y : S32x8112x85.Idx, (y 0).val = b → (y 1).val < R → g y = tgt x b (y 1).val (y 2).val⌝)

/-- An input buffer at some contents. -/
def anyB {r l : Nat} (m : Memref sig .scVector .vmem (Sb r l) .f32) : sProp 𝕄 :=
  iprop(∃ f : Buf (Elt F) (m.view.loc (V d c j)), (m.view.loc (V d c j) ↦[m.view.set]{fullShare} f))

/-- The staging array at some contents. -/
def anyO : sProp 𝕄 := iprop(∃ f : Vec F S416x85 .f32, (bO.view.loc (V d c j) ↦{fullShare} f))

/-- What the tile owes, and the waits it has made beyond `W`, all at its own index or the launch's. -/
def owed (O : CellTallies nD τ sig (HIx 1)) (W : Waits sig (HIx 1)) : sProp 𝕄 :=
  iprop(∃ W', ⌜∀ p ∈ W', p ∈ W ∨ p.2 = none ∨ p.2 = some (0 : Fin 1)⌝ ∗ owes (V d c j) O W')

variable {d c j}

theorem inB_any {r l : Nat} {m : Memref sig .scVector .vmem (Sb r l) .f32} {A : Nat → Nat → Nat → F .f32} : inB d c j m A ⊢ anyB d c j m := by
  unfold inB anyB
  iintro ⟨%f, H, -⟩
  iexists f; iexact H

theorem outB_any {G : Nat → Nat → F .f32} {Dn : Nat → Nat → Prop} : outB d c j G Dn ⊢ anyO d c j := by
  unfold outB anyO
  iintro ⟨%f, H, -⟩
  iexists f; iexact H

theorem any_outB (G : Nat → Nat → F .f32) : anyO d c j ⊢ outB d c j G (fun _ _ => False) := by
  unfold outB anyO
  iintro ⟨%f, H⟩
  iexists f; isplitl [H]; · iexact H
  ipureintro; exact fun _ h => h.elim

/-- A flight delivers what it is lent besides. -/
theorem Flight_frame {sm : SemLoc sig} {N : ℕ} {D R₁ : sProp 𝕄} :
    iprop(Transfers.Flight EC (V d c j) sm ι₀ N D ∗ R₁) ⊢ Transfers.Flight EC (V d c j) sm ι₀ N iprop(D ∗ R₁) := by
  unfold Transfers.Flight
  iintro ⟨⟨⟨%R, HR, %hcap, %hpeek⟩, Hcred⟩, HR₁⟩
  isplitl [HR HR₁]
  · iexists iprop(R ∗ R₁)
    isplitl [HR HR₁]; · isplitl [HR] <;> iassumption
    isplit
    · ipureintro
      intro K
      refine BIBase.Entails.trans ?_ (hcap K)
      iintro ⟨⟨HR, HR₁⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HR₁⟩, HK⟩
      isplitl [HR]; · iexact HR
      iintro HR
      iapply HK
      isplitl [HR] <;> iassumption
  · iexact Hcred

/-- A wait gives what the flight delivers and the semaphore at zero. -/
theorem copy_wait {α : Type} {sp sp' : Space} {s s' : Shape} {e e' : EltTy} {sem : DmaSem sig} {srcw : Memref sig .scVector sp' s' e'}
    {dstw : Memref sig .scVector sp s e} {hs hd} {N : ℕ} {D : sProp 𝕄} {O : CellTallies nD τ sig (HIx 1)} {W : Waits sig (HIx 1)}
    (hN : dstw.view.dmaCredit = N) (k : PUnit → Prog (TpuEff nD τ sig (Elt F) Λ₀ (.scVector c j)) α) (Q : α → sProp 𝕄) :
    iprop(Transfers.MayWaits (V d c j) ι₀ O ∗ Transfers.Flight EC (V d c j) (.dma sem) ι₀ N D ∗ owed d c j O W)
      ⊢ iprop((iprop(D ∗ semVal (V d c j, .dma sem) 0 ∗ owed d c j O W) -∗ wp frame (wpE (defs₀ (F := F)) 𝒱₀ (V d c j) none) Set.univ (k ⟨⟩) Q)
        -∗ wp frame (wpE (defs₀ (F := F)) 𝒱₀ (V d c j) none) Set.univ (Prog.lift (.waitDma2 sem srcw dstw hs hd) >>= k) Q) := by
  unfold owed
  iintro ⟨Hmw, HF, ⟨%W', %hW, HO⟩⟩ Hk
  ihave Hm := (Transfers.MayWaits.elim (.dma sem)) $$ Hmw
  iapply (Transfers.wp_waitLocalO (defs := defs₀ (F := F)) EC 𝒱₀ (V d c j) none ι₀ hN (D := D) (k := k)) $$ [HF HO Hm]
  · isplitl [HF]; · iexact HF
    isplitl [HO] <;> iassumption
  iintro ⟨HD, Hv, HO⟩
  iapply Hk
  isplitl [HD]; · iexact HD
  isplitl [Hv]; · iexact Hv
  iexists (insert (SemLoc.dma sem, ι₀) W'); isplitr
  · ipureintro
    intro p hp
    rcases Finset.mem_insert.mp hp with h | h
    · exact .inr (.inl (congrArg Prod.snd h))
    · exact hW p h
  · iexact HO

/-! ## Copies in -/

/-- The window of the input at `off`: seventeen channels of `r` rows of one batch. -/
abbrev xWin (r : Nat) (off : Fin 4 → Nat) (inb : ∀ a, off a + (⟨4, ![1, 17, r, 52]⟩ : Shape).size a ≤ S32x255x52x52.size a)
    (hsq : (⟨4, ![1, 17, r, 52]⟩ : Shape).Squeezes (Sb r 52)) : Memref sig .scVector .hbm (Sb r 52) .f32 :=
  (xV.slice (Rect.unit (s := S32x255x52x52) off (⟨4, ![1, 17, r, 52]⟩ : Shape).size inb) (fun _ => rfl)).squeeze (Sb r 52) hsq

/-- What the window holds. -/
def xA (x : S32x255x52x52.Idx → F .f32) (b c0 r0 : Nat) : Nat → Nat → Nat → F .f32 := fun ch i w => xAt x b (c0 + ch) (r0 + i) w

theorem xWin_emb {r : Nat} {off inb hsq} (b c0 r0 : Nat) (hoff : off = ![b, c0, r0, 0]) (y : (Sb r 52).Idx) (a : Fin 4) :
    ((xWin r off inb hsq).view.emb y a).val = (![b, c0 + (y 0).val, r0 + (y 1).val, (y 2).val] : Fin 4 → Nat) a := by
  subst hoff
  have hre : Shape.reshapeEquiv hsq.numel_eq y = (fun | 0 => ⟨0, Nat.one_pos⟩ | 1 => y 0 | 2 => y 1 | 3 => y 2 : (⟨4, ![1, 17, r, 52]⟩ : Shape).Idx) :=
    Shape.reshapeEquiv_eq_of_rowMajor _ (by
      rw [Shape.rowMajor_val_four, Shape.rowMajor_val_three]
      show (((0 * 17 + (y 0).val) * r + (y 1).val) * 52 + (y 2).val) = ((y 0).val * r + (y 1).val) * 52 + (y 2).val
      simp only [Nat.zero_mul, Nat.zero_add])
  show ((Rect.unit (s := S32x255x52x52) _ _ inb).emb (Shape.reshapeEquiv hsq.numel_eq y) a).val = _
  rw [hre]
  match a with
  | 0 => show b + 1 * 0 = b; omega
  | 1 => show c0 + 1 * (y 0).val = c0 + (y 0).val; omega
  | 2 => show r0 + 1 * (y 1).val = r0 + (y 1).val; omega
  | 3 => show 0 + 1 * (y 2).val = (y 2).val; omega

theorem xWin_read {r : Nat} {off inb hsq} (x : S32x255x52x52.Idx → F .f32) (b c0 r0 : Nat) (hoff : off = ![b, c0, r0, 0]) (y : (Sb r 52).Idx) :
    (xWin r off inb hsq).view.read (Elt F) x y = xA x b c0 r0 (y 0).val (y 1).val (y 2).val := by
  show x ((xWin r off inb hsq).view.emb y) = x (xIx b (c0 + (y 0).val) (r0 + (y 1).val) (y 2).val)
  congr 1
  funext a
  apply Fin.ext
  have h := xWin_emb (inb := inb) (hsq := hsq) b c0 r0 hoff y a
  have hlt := ((xWin r off inb hsq).view.emb y a).isLt
  match a with
  | 0 => rw [h]; rw [h] at hlt; exact (Nat.mod_eq_of_lt hlt).symm
  | 1 => rw [h]; rw [h] at hlt; exact (Nat.mod_eq_of_lt hlt).symm
  | 2 => rw [h]; rw [h] at hlt; exact (Nat.mod_eq_of_lt hlt).symm
  | 3 => rw [h]; rw [h] at hlt; exact (Nat.mod_eq_of_lt hlt).symm

theorem xWin_set {r : Nat} {off inb hsq} (b c0 r0 : Nat) (hoff : off = ![b, c0, r0, 0]) : (xWin r off inb hsq).view.set ⊆ xSet b := by
  intro y hy
  obtain ⟨z, -, rfl⟩ := Finset.mem_map.mp hy
  exact Finset.mem_filter.mpr ⟨Finset.mem_univ _, xWin_emb b c0 r0 hoff z 0⟩

/-- What a copy in delivers to the buffer behind `dst`. -/
def inR {r : Nat} (d : Dev nD) (c : Fin τ.nSC) (j : Fin τ.nSub) (dst : Memref sig .scVector .vmem (Sb r 52) .f32)
    (Sd : Finset (Idx (dst.view.loc (V d c j)))) (A : Nat → Nat → Nat → F .f32) : sProp 𝕄 :=
  iprop(∃ f : Buf (Elt F) (dst.view.loc (V d c j)), (dst.view.loc (V d c j) ↦[Sd]{fullShare} f)
    ∗ ⌜∀ y : (Sb r 52).Idx, dst.view.read (Elt F) f y = A (y 0).val (y 1).val (y 2).val⌝)

/-- The issue of a copy in. -/
theorem in_issue {α : Type} {r : Nat} (hr : 0 < r) {x : S32x255x52x52.Idx → F .f32} {off inb hsq} {dst : Memref sig .scVector .vmem (Sb r 52) .f32}
    {sem : DmaSem sig} {hs hd ht} (b c0 r0 : Nat) (hoff : off = ![b, c0, r0, 0]) {Sd : Finset (Idx (dst.view.loc (V d c j)))} (hSd : dst.view.set ⊆ Sd)
    {fd : Buf (Elt F) (dst.view.loc (V d c j))} (k : PUnit → Prog (TpuEff nD τ sig (Elt F) Λ₀ (.scVector c j)) α) (Q : α → sProp 𝕄) :
    iprop(xOwn d c j x b ∗ (dst.view.loc (V d c j) ↦[Sd]{fullShare} fd) ∗ semVal (V d c j, .dma sem) 0)
      ⊢ iprop((Transfers.Flight EC (V d c j) (.dma sem) ι₀ dst.view.dmaCredit iprop(inR d c j dst Sd (xA x b c0 r0) ∗ xOwn d c j x b)
          -∗ wp frame (wpE (defs₀ (F := F)) 𝒱₀ (V d c j) none) Set.univ (k ⟨⟩) Q)
        -∗ wp frame (wpE (defs₀ (F := F)) 𝒱₀ (V d c j) none) Set.univ
            (Prog.lift (.enqueueDma (xWin r off inb hsq) (.here dst) (.dma sem) hs hd ht) >>= k) Q) := by
  have hpos : 0 < dst.view.dmaCredit := View.dmaCredit_pos _ (by
    show 0 < ∏ a : Fin 3, (![17, r, 52] : Fin 3 → Nat) a
    rw [Fin.prod_univ_three]; show 0 < 17 * r * 52; omega)
  unfold xOwn
  iintro ⟨Hx, Hd, Hv⟩ Hk
  ihave Hx' := (pointsTo_split_subset (xWin_set (inb := inb) (hsq := hsq) b c0 r0 hoff)).mp $$ Hx
  icases Hx' with ⟨Hw, Hrest⟩
  iapply (Transfers.wp_dmaLocal (defs := defs₀ (F := F)) EC 𝒱₀ (V d c j) none (src := xWin r off inb hsq) (dst := dst) (sm := .dma sem)
    (k := k) (fs := x) (fd := fd) ι₀ dst.view.dmaCredit rfl hpos hSd) $$ [Hw Hd Hv]
  · isplitl [Hw]; · iexact Hw
    isplitl [Hd] <;> iassumption
  iintro HF
  iapply Hk
  ihave HF := Flight_frame $$ [HF Hrest]
  · isplitl [HF]; · iexact HF
    iexact Hrest
  iapply (Transfers.Flight_mono EC (V d c j) ?_) $$ HF
  iintro ⟨⟨Hd, Hw⟩, Hrest⟩
  isplitl [Hd]
  · unfold inR
    iexists _; isplitl [Hd]; · iexact Hd
    ipureintro
    intro y
    rw [View.read_write_univ]
    exact xWin_read x b c0 r0 hoff y
  · iapply (pointsTo_split_subset (xWin_set (inb := inb) (hsq := hsq) b c0 r0 hoff)).mpr
    isplitl [Hw] <;> iassumption

/-! ## Copies out -/

/-- The window of the result at `off`: `n` rows of one batch. -/
abbrev oWin (n : Nat) (off : Fin 3 → Nat) (inb : ∀ a, off a + (⟨3, ![1, n, 85]⟩ : Shape).size a ≤ S32x8112x85.size a)
    (hsq : (⟨3, ![1, n, 85]⟩ : Shape).Squeezes (⟨2, ![n, 85]⟩ : Shape)) : Memref sig .scVector .hbm (⟨2, ![n, 85]⟩ : Shape) .f32 :=
  (oV.slice (Rect.unit (s := S32x8112x85) off (⟨3, ![1, n, 85]⟩ : Shape).size inb) (fun _ => rfl)).squeeze (⟨2, ![n, 85]⟩ : Shape) hsq

theorem oWin_emb {n : Nat} {off inb hsq} (b R : Nat) (hoff : off = ![b, R, 0]) (y : (⟨2, ![n, 85]⟩ : Shape).Idx) (a : Fin 3) :
    ((oWin n off inb hsq).view.emb y a).val = (![b, R + (y 0).val, (y 1).val] : Fin 3 → Nat) a := by
  subst hoff
  have hre : Shape.reshapeEquiv hsq.numel_eq y = (fun | 0 => ⟨0, Nat.one_pos⟩ | 1 => y 0 | 2 => y 1 : (⟨3, ![1, n, 85]⟩ : Shape).Idx) :=
    Shape.reshapeEquiv_eq_of_rowMajor _ (by
      rw [Shape.rowMajor_val_three, Shape.rowMajor_val_two]
      show ((0 * n + (y 0).val) * 85 + (y 1).val) = (y 0).val * 85 + (y 1).val
      simp only [Nat.zero_mul, Nat.zero_add])
  show ((Rect.unit (s := S32x8112x85) _ _ inb).emb (Shape.reshapeEquiv hsq.numel_eq y) a).val = _
  rw [hre]
  match a with
  | 0 => show b + 1 * 0 = b; omega
  | 1 => show R + 1 * (y 0).val = R + (y 0).val; omega
  | 2 => show 0 + 1 * (y 1).val = (y 1).val; omega

theorem oWin_set {n : Nat} {off inb hsq} (b R : Nat) (hoff : off = ![b, R, 0]) : (oWin n off inb hsq).view.set ⊆ oSet b := by
  intro y hy
  obtain ⟨z, -, rfl⟩ := Finset.mem_map.mp hy
  exact Finset.mem_filter.mpr ⟨Finset.mem_univ _, oWin_emb b R hoff z 0⟩

/-- The rows below `R + n` after the copy of `n` rows from `R` on. -/
theorem oWin_write {n : Nat} {off inb hsq} (x : S32x255x52x52.Idx → F .f32) (b R : Nat) (hoff : off = ![b, R, 0])
    (g : S32x8112x85.Idx → F .f32) (w : (⟨2, ![n, 85]⟩ : Shape).Idx → F .f32)
    (hg : ∀ y : S32x8112x85.Idx, (y 0).val = b → (y 1).val < R → g y = tgt x b (y 1).val (y 2).val)
    (hw : ∀ y : (⟨2, ![n, 85]⟩ : Shape).Idx, w y = tgt x b (R + (y 0).val) (y 1).val)
    (y : S32x8112x85.Idx) (h0 : (y 0).val = b) (h1 : (y 1).val < R + n) :
    (oWin n off inb hsq).view.write (Elt F) g w Finset.univ y = tgt x b (y 1).val (y 2).val := by
  by_cases hy : y ∈ (oWin n off inb hsq).view.setOn Finset.univ
  · obtain ⟨z, -, rfl⟩ := Finset.mem_map.mp hy
    rw [View.write_emb_of_mem _ _ (Finset.mem_univ _), oWin_emb b R hoff z 1, oWin_emb b R hoff z 2]
    exact hw z
  · rw [View.write_of_not_mem _ _ _ hy]
    refine hg y h0 ?_
    by_contra hR
    refine hy (Finset.mem_map.mpr ⟨(fun | 0 => ⟨(y 1).val - R, by show _ < n; omega⟩ | 1 => y 2), Finset.mem_univ _, ?_⟩)
    funext a
    apply Fin.ext
    rw [oWin_emb b R hoff]
    match a with
    | 0 => exact h0.symm
    | 1 => show R + ((y 1).val - R) = (y 1).val; omega
    | 2 => rfl

/-- The issue of a copy out. -/
theorem out_issue {α : Type} {n : Nat} (hn : 0 < n) {x : S32x255x52x52.Idx → F .f32} {off inb hsq} {src : Memref sig .scVector .vmem (⟨2, ![n, 85]⟩ : Shape) .f32}
    {sem : DmaSem sig} {hs hd ht} (b R : Nat) (hoff : off = ![b, R, 0]) {Ss : Finset (Idx (src.view.loc (V d c j)))} (hSs : src.view.set ⊆ Ss)
    {fs : Buf (Elt F) (src.view.loc (V d c j))} (hfs : ∀ y, src.view.read (Elt F) fs y = tgt x b (R + (y 0).val) (y 1).val)
    (k : PUnit → Prog (TpuEff nD τ sig (Elt F) Λ₀ (.scVector c j)) α) (Q : α → sProp 𝕄) :
    iprop(outD d c j x b R ∗ (src.view.loc (V d c j) ↦[Ss]{fullShare} fs) ∗ semVal (V d c j, .dma sem) 0)
      ⊢ iprop((Transfers.Flight EC (V d c j) (.dma sem) ι₀ (oWin n off inb hsq).view.dmaCredit
            iprop(outD d c j x b (R + n) ∗ (src.view.loc (V d c j) ↦[Ss]{fullShare} fs))
          -∗ wp frame (wpE (defs₀ (F := F)) 𝒱₀ (V d c j) none) Set.univ (k ⟨⟩) Q)
        -∗ wp frame (wpE (defs₀ (F := F)) 𝒱₀ (V d c j) none) Set.univ
            (Prog.lift (.enqueueDma src (.here (oWin n off inb hsq)) (.dma sem) hs hd ht) >>= k) Q) := by
  have hpos : 0 < (oWin n off inb hsq).view.dmaCredit := View.dmaCredit_pos _ (by
    show 0 < ∏ a : Fin 2, (![n, 85] : Fin 2 → Nat) a
    rw [Fin.prod_univ_two]; show 0 < n * 85; omega)
  unfold outD
  iintro ⟨⟨%g, Ho, %hg⟩, Hs, Hv⟩ Hk
  ihave Hs' := (pointsTo_split_subset hSs).mp $$ Hs
  icases Hs' with ⟨Hw, Hrest⟩
  iapply (Transfers.wp_dmaLocal (defs := defs₀ (F := F)) EC 𝒱₀ (V d c j) none (src := src) (dst := oWin n off inb hsq) (sm := .dma sem)
    (k := k) (fs := fs) (fd := g) ι₀ (oWin n off inb hsq).view.dmaCredit rfl hpos (oWin_set (inb := inb) (hsq := hsq) b R hoff)) $$ [Hw Ho Hv]
  · isplitl [Hw]; · iexact Hw
    isplitl [Ho] <;> iassumption
  iintro HF
  iapply Hk
  ihave HF := Flight_frame $$ [HF Hrest]
  · isplitl [HF]; · iexact HF
    iexact Hrest
  iapply (Transfers.Flight_mono EC (V d c j) ?_) $$ HF
  iintro ⟨⟨Ho, Hw⟩, Hrest⟩
  isplitl [Ho]
  · iexists _; isplitl [Ho]; · iexact Ho
    ipureintro
    exact oWin_write x b R hoff g _ hg hfs
  · iapply (pointsTo_split_subset hSs).mpr
    isplitl [Hw] <;> iassumption

end Tile

end Cert.Proof.Yolo

end
-- ==== Proof.Units.lean ====
/-
  The units. A unit is seventeen channels of `r` image rows, from row `i0` on; it is copied into an input buffer, waited for, and its
  loops fill the staging array. Here the copies and the loops of one unit are put together, against the one target of the staging
  array: the rows of the result it will be copied to.
-/
module

public import proofs.«01_k».proof.Proof.Copies

@[expose] public section

noncomputable section

namespace Cert.Proof.Yolo

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable {α : Type} {x : S32x255x52x52.Idx → F .f32} {b a i0 : Nat}

/-! ## The staging array's target -/

/-- What the staging array shall hold when it is copied to the rows from `R` on. -/
def Gh (x : S32x255x52x52.Idx → F .f32) (b R : Nat) : Nat → Nat → F .f32 := fun p col => tgt x b (R + p) col

/-- Its place for row `i` and column `n` of the image, from row `i0` on. -/
theorem Gh_at (i n col : Nat) (hi : i0 + i < 52) (hn : n < 52) : Gh x b (2704 * a + 52 * i0) (52 * i + n) col = cell x b a (i0 + i) n col := by
  unfold Gh tgt
  rw [show (2704 * a + 52 * i0 + (52 * i + n)) / 2704 = a by omega, show (2704 * a + 52 * i0 + (52 * i + n)) % 2704 / 52 = i0 + i by omega,
    show (2704 * a + 52 * i0 + (52 * i + n)) % 52 = n by omega]

theorem Gh_sig (q ch i n : Nat) (hi : i0 + i < 52) (hn : n < 52) (hc : 4 ≤ 17 * q + ch) :
    Gh x b (2704 * a + 52 * i0) (52 * i + n) (17 * q + ch) = sg (xA x b (85 * a + 17 * q) i0 ch i n) := by
  rw [Gh_at _ _ _ hi hn]
  unfold cell xA
  rw [if_neg (by omega), if_neg (by omega), if_neg (by omega), if_neg (by omega), Nat.add_assoc]

theorem Gh_box (i n : Nat) (hi : i0 + i < 52) (hn : n < 52) :
    Gh x b (2704 * a + 52 * i0) (52 * i + n) 0 = ctr (xA x b (85 * a + 17 * 0) i0 0 i n) n
      ∧ Gh x b (2704 * a + 52 * i0) (52 * i + n) 1 = ctrY (xA x b (85 * a + 17 * 0) i0 1 i n) (i0 + i)
      ∧ Gh x b (2704 * a + 52 * i0) (52 * i + n) 2 = side (awS (BitVec.ofNat 32 a)) (xA x b (85 * a + 17 * 0) i0 2 i n)
      ∧ Gh x b (2704 * a + 52 * i0) (52 * i + n) 3 = side (ahS (BitVec.ofNat 32 a)) (xA x b (85 * a + 17 * 0) i0 3 i n) := by
  simp only [Gh_at _ _ _ hi hn]
  exact ⟨rfl, rfl, rfl, rfl⟩

variable {d : Dev nD} {c : Fin τ.nSC} {j : Fin τ.nSub} {O : CellTallies nD τ sig (HIx 1)} {W : Waits sig (HIx 1)}

/-! ## The loops of a unit -/

/-- The sigmoid loop of unit `q`. -/
theorem unitSig_wp {r l : Nat} {m : Memref sig .scVector .vmem (Sb r l) .f32} (q : Nat) (hq : q < 5) {sh msk lo c0 : BitVec 32}
    (hr : (r = 8 ∧ sh = 3#32 ∧ msk = 7#32) ∨ (r = 4 ∧ sh = 2#32 ∧ msk = 3#32)) (hl : 52 ≤ l)
    (hc0 : c0.toNat = 17 * q) (hi : i0 + r ≤ 52) {lp : Scf.Loop 32} (hlp : lo.toNat + lp.trips = 17 * r) (hlo : 4 * r ≤ 17 * q * r + lo.toNat) {hok : lp.OK}
    {body : Fin lp.trips → Unit → Prog (TpuEff nD τ sig (Elt F) Λ₀ (.scVector c j)) Unit}
    (hb : ∀ k u h0 h1, body k u = sigTrip bO m lanes (Scalar.shrui (tw lo k) sh) (Scalar.andi (tw lo k) msk) c0 h0 h1 hl)
    (T₀ T₁ : Nat) (hT₀ : T₀ = 17 * q * r + lo.toNat) (hT₁ : T₁ = 17 * (q + 1) * r)
    (k : Unit → Prog (TpuEff nD τ sig (Elt F) Λ₀ (.scVector c j)) α) (Q : α → sProp 𝕄) :
    iprop(inB d c j m (xA x b (85 * a + 17 * q) i0) ∗ outB d c j (Gh x b (2704 * a + 52 * i0)) (Done r T₀))
      ⊢ iprop((inB d c j m (xA x b (85 * a + 17 * q) i0) -∗ outB d c j (Gh x b (2704 * a + 52 * i0)) (Done r T₁)
          -∗ wp frame (wpE (defs₀ (F := F)) 𝒱₀ (V d c j) none) Set.univ (k ⟨⟩) Q)
      -∗ wp frame (wpE (defs₀ (F := F)) 𝒱₀ (V d c j) none) Set.univ (Scf.Loop.for lp hok ⟨⟩ body >>= k) Q) :=
  sigLoop_wp q hq hr hl hc0 lp hlp hlo hok body hb (fun ch _ hc i hi' n hn => Gh_sig q ch i n (by omega) hn hc) T₀ T₁ hT₀ hT₁ k Q

/-- The box loop of unit zero. -/
theorem unitBox_wp {r l : Nat} {m : Memref sig .scVector .vmem (Sb r l) .f32} (hr : r = 8 ∨ r = 4) (hl : 52 ≤ l) (hi : i0 + r ≤ 52)
    {yw : BitVec 32} {aw ah : F .f32} (hy : yw = BitVec.ofNat 32 i0) (haw : aw = awS (BitVec.ofNat 32 a)) (hah : ah = ahS (BitVec.ofNat 32 a))
    {lp : Scf.Loop 32} (hlp : lp.trips = r) {hok : lp.OK}
    {body : Fin lp.trips → Unit → Prog (TpuEff nD τ sig (Elt F) Λ₀ (.scVector c j)) Unit}
    (hb : ∀ k u h1, body k u = boxTrip bO m lanes (bw k) (Scalar.sitofp .f32 (Scalar.addi yw (bw k))) aw ah h1 hl)
    (T₁ : Nat) (hT₁ : T₁ = 4 * r) (k : Unit → Prog (TpuEff nD τ sig (Elt F) Λ₀ (.scVector c j)) α) (Q : α → sProp 𝕄) :
    iprop(inB d c j m (xA x b (85 * a + 17 * 0) i0) ∗ anyO d c j)
      ⊢ iprop((inB d c j m (xA x b (85 * a + 17 * 0) i0) -∗ outB d c j (Gh x b (2704 * a + 52 * i0)) (Done r T₁)
          -∗ wp frame (wpE (defs₀ (F := F)) 𝒱₀ (V d c j) none) Set.univ (k ⟨⟩) Q)
      -∗ wp frame (wpE (defs₀ (F := F)) 𝒱₀ (V d c j) none) Set.univ (Scf.Loop.for lp hok ⟨⟩ body >>= k) Q) := by
  subst haw hah
  have H := boxLoop_wp (F := F) (d := d) (c := c) (j := j) (m := m) (A := xA x b (85 * a + 17 * 0) i0) (G := Gh x b (2704 * a + 52 * i0)) hr hl lp hlp hok body hb i0 hy
    (fun i hi' n hn => Gh_box i n (by omega) hn) T₁ hT₁ k Q
  refine BIBase.Entails.trans ?_ H
  iintro ⟨Hm, HO⟩
  isplitl [Hm]; · iexact Hm
  iapply any_outB $$ HO

/-! ## The copies of a unit of eight rows -/

/-- The part of an input buffer a unit of eight rows is copied into. -/
abbrev inWin (m : Memref sig .scVector .vmem S17x8x128 .f32) : Memref sig .scVector .vmem S17x8x52 .f32 :=
  m.slice (Rect.unit (s := S17x8x128) ![0, 0, 0] S17x8x52.size inb_S17x8x128_S17x8x52_0_0_0) (fun _ => rfl)

/-- A unit on its way into the buffer `m`: at its wait it brings the buffer and the tile's batch back. -/
def fly (d : Dev nD) (c : Fin τ.nSC) (j : Fin τ.nSub) (m : Memref sig .scVector .vmem S17x8x128 .f32) (sem : DmaSem sig) (x : S32x255x52x52.Idx → F .f32) (b c0 r0 : Nat) : sProp 𝕄 :=
  Transfers.Flight EC (V d c j) (.dma sem) ι₀ (inWin m).view.dmaCredit iprop(inB d c j m (xA x b c0 r0) ∗ xOwn d c j x b)

/-- The buffer and its semaphore, at rest. -/
def idle (d : Dev nD) (c : Fin τ.nSC) (j : Fin τ.nSub) {r l : Nat} (m : Memref sig .scVector .vmem (Sb r l) .f32) (sem : DmaSem sig) : sProp 𝕄 :=
  iprop(anyB (F := F) d c j m ∗ semVal (V d c j, .dma sem) 0)

theorem inR_inB {m : Memref sig .scVector .vmem S17x8x128 .f32} {A : Nat → Nat → Nat → F .f32} :
    inR d c j (inWin m) m.view.set A ⊢ inB d c j m A := by
  unfold inR inB
  iintro ⟨%f, H, %hf⟩
  iexists f; isplitl [H]; · iexact H
  ipureintro
  intro y hy
  have := hf (fun | 0 => y 0 | 1 => y 1 | 2 => ⟨(y 2).val, hy⟩)
  refine Eq.trans (congrArg (m.view.read (Elt F) f) ?_) this
  funext e; apply Fin.ext
  match e with
  | 0 => show (y 0).val = 0 + 1 * (y 0).val; omega
  | 1 => show (y 1).val = 0 + 1 * (y 1).val; omega
  | 2 => show (y 2).val = 0 + 1 * (y 2).val; omega

/-- The issue of a unit. -/
theorem unit_issue {m : Memref sig .scVector .vmem S17x8x128 .f32} {sem : DmaSem sig} {off inb hsq hs hd ht} (c0 r0 : Nat) (hoff : off = ![b, c0, r0, 0])
    (k : PUnit → Prog (TpuEff nD τ sig (Elt F) Λ₀ (.scVector c j)) α) (Q : α → sProp 𝕄) :
    iprop(xOwn d c j x b ∗ idle (F := F) d c j m sem)
      ⊢ iprop((fly d c j m sem x b c0 r0 -∗ wp frame (wpE (defs₀ (F := F)) 𝒱₀ (V d c j) none) Set.univ (k ⟨⟩) Q)
        -∗ wp frame (wpE (defs₀ (F := F)) 𝒱₀ (V d c j) none) Set.univ
            (Prog.lift (.enqueueDma (xWin 8 off inb hsq) (.here (inWin m)) (.dma sem) hs hd ht) >>= k) Q) := by
  unfold idle anyB
  iintro ⟨Hx, ⟨%f, Hm⟩, Hv⟩ Hk
  iapply (in_issue (x := x) (dst := inWin m) (sem := sem) (by decide) b c0 r0 hoff (Sd := m.view.set) (View.set_slice_subset _ _) (fd := f) k Q) $$ [Hx Hm Hv]
  · isplitl [Hx]; · iexact Hx
    isplitl [Hm] <;> iassumption
  iintro HF
  iapply Hk
  unfold fly
  iapply (Transfers.Flight_mono EC (V d c j) ?_) $$ HF
  iintro ⟨HR, Hx⟩
  isplitl [HR]; · iapply inR_inB $$ HR
  iexact Hx

/-- A unit in the buffer `m`, its batch back with the tile and its semaphore at zero. -/
def here (d : Dev nD) (c : Fin τ.nSC) (j : Fin τ.nSub) {r l : Nat} (m : Memref sig .scVector .vmem (Sb r l) .f32) (sem : DmaSem sig) (A : Nat → Nat → Nat → F .f32) : sProp 𝕄 :=
  iprop(inB d c j m A ∗ semVal (V d c j, .dma sem) 0)

theorem here_idle {r l : Nat} {m : Memref sig .scVector .vmem (Sb r l) .f32} {sem : DmaSem sig} {A : Nat → Nat → Nat → F .f32} :
    here d c j m sem A ⊢ idle (F := F) d c j m sem := by
  unfold here idle
  iintro ⟨Hm, Hv⟩
  isplitl [Hm]; · iapply inB_any $$ Hm
  iexact Hv

/-- The wait for a unit. -/
theorem unit_wait {m : Memref sig .scVector .vmem S17x8x128 .f32} {sem : DmaSem sig} {c0 r0 : Nat} {sp' : Space} {s' : Shape} {e' : EltTy} {srcw : Memref sig .scVector sp' s' e'} {hs hd}
    (k : PUnit → Prog (TpuEff nD τ sig (Elt F) Λ₀ (.scVector c j)) α) (Q : α → sProp 𝕄) :
    iprop(Transfers.MayWaits (V d c j) ι₀ O ∗ fly d c j m sem x b c0 r0 ∗ owed d c j O W)
      ⊢ iprop((iprop(here d c j m sem (xA x b c0 r0) ∗ xOwn d c j x b ∗ owed d c j O W)
          -∗ wp frame (wpE (defs₀ (F := F)) 𝒱₀ (V d c j) none) Set.univ (k ⟨⟩) Q)
        -∗ wp frame (wpE (defs₀ (F := F)) 𝒱₀ (V d c j) none) Set.univ (Prog.lift (.waitDma2 sem srcw (inWin m) hs hd) >>= k) Q) := by
  unfold fly here
  iintro ⟨#Hmw, HF, HO⟩ Hk
  iapply (copy_wait rfl k Q) $$ [HF HO]
  · isplitr; · iexact Hmw
    isplitl [HF] <;> iassumption
  iintro ⟨⟨Hm, Hx⟩, Hv, HO⟩
  iapply Hk
  isplitl [Hm Hv]; · isplitl [Hm] <;> iassumption
  isplitl [Hx] <;> iassumption

/-- One turn of the two buffers: the wait for the unit in `m`, and the issue of the next into `m'`. -/
theorem turn_wp {m m' : Memref sig .scVector .vmem S17x8x128 .f32} {sem sem' : DmaSem sig} {c0 r0 : Nat} (c0' r0' : Nat)
    {sp' : Space} {s' : Shape} {e' : EltTy} {srcw : Memref sig .scVector sp' s' e'} {hs hd} {off inb hsq hs' hd' ht'} (hoff : off = ![b, c0', r0', 0])
    (k : PUnit → Prog (TpuEff nD τ sig (Elt F) Λ₀ (.scVector c j)) α) (Q : α → sProp 𝕄) :
    iprop(Transfers.MayWaits (V d c j) ι₀ O ∗ fly d c j m sem x b c0 r0 ∗ idle (F := F) d c j m' sem' ∗ owed d c j O W)
      ⊢ iprop((iprop(here d c j m sem (xA x b c0 r0) ∗ fly d c j m' sem' x b c0' r0' ∗ owed d c j O W)
          -∗ wp frame (wpE (defs₀ (F := F)) 𝒱₀ (V d c j) none) Set.univ (k ⟨⟩) Q)
        -∗ wp frame (wpE (defs₀ (F := F)) 𝒱₀ (V d c j) none) Set.univ (Prog.lift (.waitDma2 sem srcw (inWin m) hs hd)
            >>= fun _ => Prog.lift (.enqueueDma (xWin 8 off inb hsq) (.here (inWin m')) (.dma sem') hs' hd' ht') >>= k) Q) := by
  iintro ⟨#Hmw, HF, Hi, HO⟩ Hk
  iapply (unit_wait (m := m) (sem := sem) _ Q) $$ [HF HO]
  · isplitr; · iexact Hmw
    isplitl [HF] <;> iassumption
  iintro ⟨Hh, Hx, HO⟩
  iapply (unit_issue (m := m') (sem := sem') c0' r0' hoff k Q) $$ [Hx Hi]
  · isplitl [Hx] <;> iassumption
  iintro HF
  iapply Hk
  isplitl [Hh]; · iexact Hh
  isplitl [HF] <;> iassumption

/-- One turn with the loop of the unit waited for. -/
theorem step_wp {m m' : Memref sig .scVector .vmem S17x8x128 .f32} {sem sem' : DmaSem sig} (q : Nat) (hq : 0 < q ∧ q < 5) (hi : i0 + 8 ≤ 52) (c0' r0' : Nat)
    {sp' : Space} {s' : Shape} {e' : EltTy} {srcw : Memref sig .scVector sp' s' e'} {hs hd} {off inb hsq hs' hd' ht'} (hoff : off = ![b, c0', r0', 0])
    {cw : BitVec 32} (hcw : cw.toNat = 17 * q) {lp : Scf.Loop 32} (hlp : lp.trips = 136) {hok : lp.OK}
    {body : Fin lp.trips → Unit → Prog (TpuEff nD τ sig (Elt F) Λ₀ (.scVector c j)) Unit}
    (hb : ∀ k u h0 h1, body k u = sigTrip bO m lanes (Scalar.shrui (tw 0#32 k) 3#32) (Scalar.andi (tw 0#32 k) 7#32) cw h0 h1 (by decide))
    (T₀ T₁ : Nat) (hT₀ : T₀ = 17 * q * 8) (hT₁ : T₁ = 17 * (q + 1) * 8)
    (k : Unit → Prog (TpuEff nD τ sig (Elt F) Λ₀ (.scVector c j)) α) (Q : α → sProp 𝕄) :
    iprop(Transfers.MayWaits (V d c j) ι₀ O ∗ fly d c j m sem x b (85 * a + 17 * q) i0 ∗ idle (F := F) d c j m' sem' ∗ owed d c j O W
        ∗ outB d c j (Gh x b (2704 * a + 52 * i0)) (Done 8 T₀))
      ⊢ iprop((iprop(fly d c j m' sem' x b c0' r0' ∗ idle (F := F) d c j m sem ∗ owed d c j O W ∗ outB d c j (Gh x b (2704 * a + 52 * i0)) (Done 8 T₁))
          -∗ wp frame (wpE (defs₀ (F := F)) 𝒱₀ (V d c j) none) Set.univ (k ⟨⟩) Q)
        -∗ wp frame (wpE (defs₀ (F := F)) 𝒱₀ (V d c j) none) Set.univ (Prog.lift (.waitDma2 sem srcw (inWin m) hs hd)
            >>= fun _ => Prog.lift (.enqueueDma (xWin 8 off inb hsq) (.here (inWin m')) (.dma sem') hs' hd' ht')
            >>= fun _ => Scf.Loop.for lp hok ⟨⟩ body >>= k) Q) := by
  iintro ⟨#Hmw, HF, Hi, HO, Ho⟩ Hk
  iapply (turn_wp (m := m) (m' := m') (sem := sem) (sem' := sem') c0' r0' hoff _ Q) $$ [HF Hi HO]
  · isplitr; · iexact Hmw
    isplitl [HF]; · iexact HF
    isplitl [Hi] <;> iassumption
  unfold here
  iintro ⟨⟨Hm, Hv⟩, HF, HO⟩
  iapply (unitSig_wp (m := m) (x := x) (b := b) (a := a) (i0 := i0) q hq.2 (.inl ⟨rfl, rfl, rfl⟩) (by decide) hcw hi (by rw [hlp]; rfl) (by simp; omega) hb T₀ T₁ (by simp [hT₀]) hT₁ k Q) $$ [Hm Ho]
  · isplitl [Hm] <;> iassumption
  iintro Hm Ho
  iapply Hk
  isplitl [HF]; · iexact HF
  isplitl [Hm Hv]
  · unfold idle; isplitl [Hm]; · iapply inB_any $$ Hm
    iexact Hv
  isplitl [HO] <;> iassumption

/-- The loops of unit zero: the boxes, then the sigmoids of its other channels. -/
theorem zero_wp {r l : Nat} {m : Memref sig .scVector .vmem (Sb r l) .f32} {sh msk lo : BitVec 32}
    (hr : (r = 8 ∧ sh = 3#32 ∧ msk = 7#32) ∨ (r = 4 ∧ sh = 2#32 ∧ msk = 3#32)) (hl : 52 ≤ l) (hi : i0 + r ≤ 52)
    {yw : BitVec 32} {aw ah : F .f32} (hy : yw = BitVec.ofNat 32 i0) (haw : aw = awS (BitVec.ofNat 32 a)) (hah : ah = ahS (BitVec.ofNat 32 a))
    {lp lp' : Scf.Loop 32} (hlp : lp.trips = r) (hlo : lo.toNat = 4 * r) (hlp' : lo.toNat + lp'.trips = 17 * r) {hok : lp.OK} {hok' : lp'.OK}
    {body : Fin lp.trips → Unit → Prog (TpuEff nD τ sig (Elt F) Λ₀ (.scVector c j)) Unit}
    {body' : Fin lp'.trips → Unit → Prog (TpuEff nD τ sig (Elt F) Λ₀ (.scVector c j)) Unit}
    (hb : ∀ k u h1, body k u = boxTrip bO m lanes (bw k) (Scalar.sitofp .f32 (Scalar.addi yw (bw k))) aw ah h1 hl)
    (hb' : ∀ k u h0 h1, body' k u = sigTrip bO m lanes (Scalar.shrui (tw lo k) sh) (Scalar.andi (tw lo k) msk) 0#32 h0 h1 hl)
    (T₁ : Nat) (hT₁ : T₁ = 17 * r) (k : Unit → Prog (TpuEff nD τ sig (Elt F) Λ₀ (.scVector c j)) α) (Q : α → sProp 𝕄) :
    iprop(inB d c j m (xA x b (85 * a + 17 * 0) i0) ∗ anyO d c j)
      ⊢ iprop((inB d c j m (xA x b (85 * a + 17 * 0) i0) -∗ outB d c j (Gh x b (2704 * a + 52 * i0)) (Done r T₁)
          -∗ wp frame (wpE (defs₀ (F := F)) 𝒱₀ (V d c j) none) Set.univ (k ⟨⟩) Q)
      -∗ wp frame (wpE (defs₀ (F := F)) 𝒱₀ (V d c j) none) Set.univ (Scf.Loop.for lp hok ⟨⟩ body >>= fun _ => Scf.Loop.for lp' hok' ⟨⟩ body' >>= k) Q) := by
  iintro H Hk
  iapply (unitBox_wp (m := m) (x := x) (b := b) (a := a) (i0 := i0) (hr.imp (·.1) (·.1)) hl hi hy haw hah hlp hb (4 * r) rfl _ Q) $$ H
  iintro Hm Ho
  iapply (unitSig_wp (m := m) (x := x) (b := b) (a := a) (i0 := i0) 0 (by decide) hr hl (by rfl) hi hlp' (by omega) hb' (4 * r) T₁ (by omega) (by omega) k Q) $$ [Hm Ho]
  · isplitl [Hm] <;> iassumption
  iexact Hk

/-! ## The copies of a half -/

/-- The staging array filled, ready for the copy to the rows from `R` on. -/
theorem half_issue {sem : DmaSem sig} {off inb hsq hs hd ht} (R : Nat) (hoff : off = ![b, R, 0])
    (k : PUnit → Prog (TpuEff nD τ sig (Elt F) Λ₀ (.scVector c j)) α) (Q : α → sProp 𝕄) :
    iprop(outD d c j x b R ∗ outB d c j (Gh x b R) (Done 8 680) ∗ semVal (V d c j, .dma sem) 0)
      ⊢ iprop((Transfers.Flight EC (V d c j) (.dma sem) ι₀ (oWin 416 off inb hsq).view.dmaCredit iprop(outD d c j x b (R + 416) ∗ anyO (F := F) d c j)
          -∗ wp frame (wpE (defs₀ (F := F)) 𝒱₀ (V d c j) none) Set.univ (k ⟨⟩) Q)
        -∗ wp frame (wpE (defs₀ (F := F)) 𝒱₀ (V d c j) none) Set.univ
            (Prog.lift (.enqueueDma bO (.here (oWin 416 off inb hsq)) (.dma sem) hs hd ht) >>= k) Q) := by
  unfold outB
  iintro ⟨Ho, ⟨%f, Hb, %hf⟩, Hv⟩ Hk
  iapply (out_issue (x := x) (src := bO) (sem := sem) (by decide) b R hoff (Ss := Finset.univ) (Finset.subset_univ _) (fs := f) ?_ k Q) $$ [Ho Hb Hv]
  · intro y
    have h0 : (y 0).val < 416 := (y 0).isLt
    have h1 : (y 1).val < 85 := (y 1).isLt
    refine (hf y ?_)
    unfold Done
    constructor <;> omega
  · isplitl [Ho]; · iexact Ho
    isplitl [Hb] <;> iassumption
  iintro HF
  iapply Hk
  iapply (Transfers.Flight_mono EC (V d c j) ?_) $$ HF
  iintro ⟨Ho, Hb⟩
  isplitl [Ho]; · iexact Ho
  unfold anyO
  iexists f; iexact Hb

end Cert.Proof.Yolo

end
-- ==== Proof.Pair.lean ====
/-
  The pair loop: one trip fills the staging array twice, for eight image rows each, and sends it to the result. Between trips the first
  unit of the next half is on its way into the first input buffer, and the last half on its way out.
-/
module

public import proofs.«01_k».proof.Proof.Units

@[expose] public section

noncomputable section

namespace Cert.Proof.Yolo

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The tile at grid position `L`, and its batch. -/
abbrev cV (L : grid0.Coords) : Fin τ.nSC := (L 0).castLE hcore0
abbrev jV (L : grid0.Coords) : Fin τ.nSub := (L 1).castLE hsub0
abbrev bV (L : grid0.Coords) : Nat := 2 * (L 1).val + (L 0).val

/-- The number of a loop's trip as a word. -/
theorem iv_eq {n : Nat} (k : Fin n) : Scf.iv 0#32 1#32 k = BitVec.ofNat 32 k.val := by
  show 0#32 + BitVec.ofNat 32 k.val * 1#32 = _
  rw [BitVec.mul_one, BitVec.zero_add]

theorem aw_eq (t1 : Fin k0_t1_loop.trips) : k0_pay214 (F := F) 0#32 1#32 t1 = awS (BitVec.ofNat 32 t1.val) := by
  rw [← iv_eq t1]; rfl

theorem ah_eq (t1 : Fin k0_t1_loop.trips) : k0_pay215 (F := F) 0#32 1#32 t1 = ahS (BitVec.ofNat 32 t1.val) := by
  rw [← iv_eq t1]; rfl

theorem top_eq (p : Fin k0_t2_loop.trips) : Scalar.muli (Scf.iv 0#32 1#32 p) 16#32 = BitVec.ofNat 32 (16 * p.val) := by revert p; decide

theorem bot_eq (p : Fin k0_t2_loop.trips) : Scalar.addi (Scalar.muli (Scf.iv 0#32 1#32 p) 16#32) 8#32 = BitVec.ofNat 32 (16 * p.val + 8) := by
  revert p; decide

theorem cond1_iff : ∀ p : Fin k0_t2_loop.trips, k0_cond1 p = 1#1 ↔ p.val ≠ 0 := by decide
theorem cond2_iff : ∀ p : Fin k0_t2_loop.trips, k0_cond2 p = 1#1 ↔ p.val < 2 := by decide

section

variable (d : Dev nD) (L : grid0.Coords) (x : S32x255x52x52.Idx → F .f32)

/-- The bytes a copy of the staging array moves. -/
abbrev oCred : ℕ := (oWin 416 ![0, 0, 0] (by decide) squeezes_S1x416x85_S416x85).view.dmaCredit

/-- The staging array on its way out: at its wait the result's rows below `R` are right. -/
def flyO (R : Nat) : sProp 𝕄 :=
  Transfers.Flight EC (V d (cV L) (jV L)) (.dma cc0_scratch6.sem) ι₀ oCred
    iprop(outD d (cV L) (jV L) x (bV L) R ∗ anyO (F := F) d (cV L) (jV L))

/-- The staging array at rest, the result's rows below `R` right. -/
def restO (R : Nat) : sProp 𝕄 :=
  iprop(outD d (cV L) (jV L) x (bV L) R ∗ anyO (F := F) d (cV L) (jV L) ∗ semVal (V d (cV L) (jV L), .dma cc0_scratch6.sem) 0)

/-- The pair loop's invariant before trip `p` of anchor `a`. -/
def pairI (O : CellTallies nD τ sig (HIx 1)) (W : Waits sig (HIx 1)) (a p : Nat) : sProp 𝕄 :=
  iprop(Transfers.MayWaits (V d (cV L) (jV L)) ι₀ O ∗ owed d (cV L) (jV L) O W ∗ idle (F := F) d (cV L) (jV L) bB cc0_scratch5.sem
    ∗ (if p < 3 then fly d (cV L) (jV L) bA cc0_scratch4.sem x (bV L) (85 * a + 17 * 0) (16 * p)
        else iprop(xOwn d (cV L) (jV L) x (bV L) ∗ idle (F := F) d (cV L) (jV L) bA cc0_scratch4.sem))
    ∗ (if p = 0 then restO d L x (2704 * a) else flyO d L x (2704 * a + 832 * p)))

variable {d L x} {O : CellTallies nD τ sig (HIx 1)} {W : Waits sig (HIx 1)} {α : Type}

/-- The wait for the staging array. -/
theorem out_wait {R : Nat} {sp : Space} {s : Shape} {e : EltTy} {dstw : Memref sig .scVector sp s e} {hs hd} (hN : dstw.view.dmaCredit = oCred)
    (k : PUnit → Prog (TpuEff nD τ sig (Elt F) Λ₀ (.scVector (cV L) (jV L))) α) (Q : α → sProp 𝕄) :
    iprop(Transfers.MayWaits (V d (cV L) (jV L)) ι₀ O ∗ flyO d L x R ∗ owed d (cV L) (jV L) O W)
      ⊢ iprop((iprop(restO d L x R ∗ owed d (cV L) (jV L) O W)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (Prog.lift (.waitDma2 cc0_scratch6.sem bO dstw hs hd) >>= k) Q) := by
  unfold flyO restO
  iintro ⟨#Hmw, HF, HO⟩ Hk
  iapply (copy_wait hN k Q) $$ [HF HO]
  · isplitr; · iexact Hmw
    isplitl [HF] <;> iassumption
  iintro ⟨⟨Ho, Hb⟩, Hv, HO⟩
  iapply Hk
  isplitl [Ho Hb Hv]
  · isplitl [Ho]; · iexact Ho
    isplitl [Hb] <;> iassumption
  iexact HO

/-- The issue of the staging array to the result's rows from `R` on. -/
theorem stage_issue {off inb hsq hs hd ht} (R : Nat) (hoff : off = ![bV L, R, 0])
    (k : PUnit → Prog (TpuEff nD τ sig (Elt F) Λ₀ (.scVector (cV L) (jV L))) α) (Q : α → sProp 𝕄) :
    iprop(outD d (cV L) (jV L) x (bV L) R ∗ outB d (cV L) (jV L) (Gh x (bV L) R) (Done 8 680) ∗ semVal (V d (cV L) (jV L), .dma cc0_scratch6.sem) 0)
      ⊢ iprop((flyO d L x (R + 416) -∗ wp frame (wpE (defs₀ (F := F)) 𝒱₀ (V d (cV L) (jV L)) none) Set.univ (k ⟨⟩) Q)
        -∗ wp frame (wpE (defs₀ (F := F)) 𝒱₀ (V d (cV L) (jV L)) none) Set.univ
            (Prog.lift (.enqueueDma bO (.here (oWin 416 off inb hsq)) (.dma cc0_scratch6.sem) hs hd ht) >>= k) Q) :=
  half_issue R hoff k Q

/-- A choice whose arms both go on the same way. -/
theorem dite_head {β : Type} {pr : Proc τ} {q : Prop} [Decidable q] (w : q → Prog (TpuEff nD τ sig (Elt F) Λ₀ pr) PUnit)
    (r : Prog (TpuEff nD τ sig (Elt F) Λ₀ pr) β) :
    (if h : q then w h >>= fun _ => r else r) = (if h : q then w h else pure ⟨⟩) >>= fun _ => r := by
  by_cases h : q
  · rw [dif_pos h, dif_pos h]
  · rw [dif_neg h, dif_neg h]; rfl

/-- Before the first half of a trip the staging array is waited for, unless it is the first trip. -/
theorem out_ready (a : Nat) (p : Fin k0_t2_loop.trips) {sp : Space} {s : Shape} {e : EltTy} {dstw : k0_cond1 p = 1#1 → Memref sig .scVector sp s e}
    {hs hd : ∀ h : k0_cond1 p = 1#1, _} (hN : ∀ h, (dstw h).view.dmaCredit = oCred)
    (k : PUnit → Prog (TpuEff nD τ sig (Elt F) Λ₀ (.scVector (cV L) (jV L))) α) (Q : α → sProp 𝕄) :
    iprop(Transfers.MayWaits (V d (cV L) (jV L)) ι₀ O ∗ (if p.val = 0 then restO d L x (2704 * a) else flyO d L x (2704 * a + 832 * p.val)) ∗ owed d (cV L) (jV L) O W)
      ⊢ iprop((iprop(restO d L x (2704 * a + 832 * p.val) ∗ owed d (cV L) (jV L) O W)
          -∗ wp frame (wpE (defs₀ (F := F)) 𝒱₀ (V d (cV L) (jV L)) none) Set.univ (k ⟨⟩) Q)
        -∗ wp frame (wpE (defs₀ (F := F)) 𝒱₀ (V d (cV L) (jV L)) none) Set.univ
          ((if h : k0_cond1 p = 1#1 then Prog.lift (.waitDma2 cc0_scratch6.sem bO (dstw h) (hs h) (hd h)) else pure ⟨⟩) >>= k) Q) := by
  by_cases h : k0_cond1 p = 1#1
  · rw [dif_pos h, if_neg ((cond1_iff p).mp h)]
    exact out_wait (hN h) k Q
  · have h0 : p.val = 0 := by by_contra h0; exact h ((cond1_iff p).mpr h0)
    rw [dif_neg h, if_pos h0, h0, pure_bind]
    iintro ⟨#Hmw, Ho, HO⟩ Hk
    iapply Hk
    isplitl [Ho] <;> iassumption

/-- After the last unit of a trip the next trip's first unit is issued, unless it is the last trip. -/
theorem next_issue (a : Nat) (p : Fin k0_t2_loop.trips) {off inb hsq hs hd ht : ∀ h : k0_cond2 p = 1#1, _}
    (hoff : ∀ h, off h = ![bV L, 85 * a + 17 * 0, 16 * (p.val + 1), 0])
    (k : PUnit → Prog (TpuEff nD τ sig (Elt F) Λ₀ (.scVector (cV L) (jV L))) α) (Q : α → sProp 𝕄) :
    iprop(xOwn d (cV L) (jV L) x (bV L) ∗ idle (F := F) d (cV L) (jV L) bA cc0_scratch4.sem)
      ⊢ iprop(((if p.val + 1 < 3 then fly d (cV L) (jV L) bA cc0_scratch4.sem x (bV L) (85 * a + 17 * 0) (16 * (p.val + 1))
            else iprop(xOwn d (cV L) (jV L) x (bV L) ∗ idle (F := F) d (cV L) (jV L) bA cc0_scratch4.sem))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
          ((if h : k0_cond2 p = 1#1 then
              Prog.lift (.enqueueDma (xWin 8 (off h) (inb h) (hsq h)) (.here (inWin bA)) (.dma cc0_scratch4.sem) (hs h) (hd h) (ht h)) else pure ⟨⟩) >>= k) Q) := by
  by_cases h : k0_cond2 p = 1#1
  · rw [dif_pos h, if_pos (by have := (cond2_iff p).mp h; omega)]
    exact unit_issue _ _ (hoff h) k Q
  · have h2 : ¬ p.val < 2 := fun h2 => h ((cond2_iff p).mpr h2)
    rw [dif_neg h, if_neg (by omega), pure_bind]
    iintro Hi Hk
    iapply Hk $$ Hi

set_option maxRecDepth 8000 in
set_option maxHeartbeats 4000000 in
/-- One trip of the pair loop. -/
theorem pair_trip (t1 : Fin k0_t1_loop.trips) (p : Fin k0_t2_loop.trips) (u : Unit) :
    pairI d L x O W t1.val p.val
      ⊢ wp frame (wpE (defs₀ (F := F)) 𝒱₀ (V d (cV L) (jV L)) none) Set.univ
          (k0_t2_body (F := F) L xV (Memref.isWhole_whole _) oV (Memref.isWhole_whole _) bA (Memref.isWhole_whole _) bB (Memref.isWhole_whole _)
            bT (Memref.isWhole_whole _) bO (Memref.isWhole_whole _) cc0_scratch4 cc0_scratch5 cc0_scratch6 cc0_scoped0 cc0_scoped1 cc0_scoped2
            cc0_scoped3 cc0_scoped4 cc0_scoped5 lanes 0#32 1#32 t1 (Scf.iv 0#32 1#32 t1) p u)
          fun _ => pairI d L x O W t1.val (p.val + 1) := by
  have hp : p.val < 3 := p.isLt
  unfold pairI
  rw [if_pos hp, if_neg (show ¬ p.val + 1 = 0 by omega)]
  unfold k0_t2_body
  rw [k0_part23_eq_skeleton, k0_part24_eq_skeleton, k0_part25_eq_skeleton, k0_part26_eq_skeleton, k0_part27_eq_skeleton, k0_part28_eq_skeleton,
    k0_part29_eq_skeleton, k0_part30_eq_skeleton]
  unfold k0_part23_skel k0_part24_skel k0_part25_skel k0_part26_skel k0_part27_skel k0_part28_skel k0_part29_skel k0_part30_skel
  simp only [Prog.bind_assoc, pure_bind]
  rw [dite_head]
  simp only [Prog.bind_assoc, pure_bind]
  rw [dite_head (q := k0_cond2 p = 1#1)]
  simp only [Prog.bind_assoc, pure_bind]
  iintro ⟨#Hmw, HO, HiB, HfA, Hout⟩
  -- the upper half: unit 0
  iapply (turn_wp (m := bA) (m' := bB) (85 * t1.val + 17 * 1) (16 * p.val) (k0_off2_eq L t1 p 1) _ _) $$ [HfA HiB HO]
  · isplitr; · iexact Hmw
    isplitl [HfA]; · iexact HfA
    isplitl [HiB] <;> iassumption
  unfold here
  iintro ⟨⟨HmA, HvA⟩, HfB, HO⟩
  iapply (out_ready t1.val p ?_ _ _) $$ [Hout HO]
  · exact fun _ => rfl
  · isplitr; · iexact Hmw
    isplitl [Hout] <;> iassumption
  unfold restO
  iintro ⟨⟨HoD, Hb, HvO⟩, HO⟩
  iapply (zero_wp (m := bA) (x := x) (b := bV L) (a := t1.val) (i0 := 16 * p.val) (.inl ⟨rfl, rfl, rfl⟩) (by decide) (by omega) (top_eq p) (aw_eq t1) (ah_eq t1)
    (lo := 32#32) rfl rfl rfl ?_ ?_ 136 rfl _ _) $$ [HmA Hb]
  · exact fun _ _ _ => rfl
  · exact fun _ _ _ _ => rfl
  · isplitl [HmA] <;> iassumption
  iintro HmA Hb
  -- its units 1 to 4
  iapply (step_wp (m := bB) (m' := bA) (a := t1.val) (i0 := 16 * p.val) 1 (by decide) (by omega) (85 * t1.val + 17 * 2) (16 * p.val) (k0_off2_eq L t1 p 2)
    (cw := 17#32) rfl rfl ?_ 136 272 rfl rfl _ _) $$ [HfB HmA HvA HO Hb]
  · exact fun _ _ _ _ => rfl
  · isplitr; · iexact Hmw
    isplitl [HfB]; · iexact HfB
    isplitl [HmA HvA]; · unfold idle; isplitl [HmA]; · iapply inB_any $$ HmA
                         iexact HvA
    isplitl [HO] <;> iassumption
  iintro ⟨HfA, HiB, HO, Hb⟩
  iapply (step_wp (m := bA) (m' := bB) (a := t1.val) (i0 := 16 * p.val) 2 (by decide) (by omega) (85 * t1.val + 17 * 3) (16 * p.val) (k0_off2_eq L t1 p 3)
    (cw := 34#32) rfl rfl ?_ 272 408 rfl rfl _ _) $$ [HfA HiB HO Hb]
  · exact fun _ _ _ _ => rfl
  · isplitr; · iexact Hmw
    isplitl [HfA]; · iexact HfA
    isplitl [HiB]; · iexact HiB
    isplitl [HO] <;> iassumption
  iintro ⟨HfB, HiA, HO, Hb⟩
  iapply (step_wp (m := bB) (m' := bA) (a := t1.val) (i0 := 16 * p.val) 3 (by decide) (by omega) (85 * t1.val + 17 * 4) (16 * p.val) (k0_off2_eq L t1 p 4)
    (cw := 51#32) rfl rfl ?_ 408 544 rfl rfl _ _) $$ [HfB HiA HO Hb]
  · exact fun _ _ _ _ => rfl
  · isplitr; · iexact Hmw
    isplitl [HfB]; · iexact HfB
    isplitl [HiA]; · iexact HiA
    isplitl [HO] <;> iassumption
  iintro ⟨HfA, HiB, HO, Hb⟩
  iapply (step_wp (m := bA) (m' := bB) (a := t1.val) (i0 := 16 * p.val) 4 (by decide) (by omega) (85 * t1.val + 17 * 0) (16 * p.val + 8) (k0_off36_eq L t1 p 0)
    (cw := 68#32) rfl rfl ?_ 544 680 rfl rfl _ _) $$ [HfA HiB HO Hb]
  · exact fun _ _ _ _ => rfl
  · isplitr; · iexact Hmw
    isplitl [HfA]; · iexact HfA
    isplitl [HiB]; · iexact HiB
    isplitl [HO] <;> iassumption
  iintro ⟨HfB, HiA, HO, Hb⟩
  rw [show 2704 * t1.val + 52 * (16 * p.val) = 2704 * t1.val + 832 * p.val by omega]
  iapply (stage_issue (2704 * t1.val + 832 * p.val) (k0_off41_eq L t1 p) _ _) $$ [HoD Hb HvO]
  · isplitl [HoD]; · iexact HoD
    isplitl [Hb] <;> iassumption
  iintro HfO
  -- the lower half: unit 0
  iapply (turn_wp (m := bB) (m' := bA) (85 * t1.val + 17 * 1) (16 * p.val + 8) (k0_off36_eq L t1 p 1) _ _) $$ [HfB HiA HO]
  · isplitr; · iexact Hmw
    isplitl [HfB]; · iexact HfB
    isplitl [HiA] <;> iassumption
  unfold here
  iintro ⟨⟨HmB, HvB⟩, HfA, HO⟩
  iapply (out_wait ?_ _ _) $$ [HfO HO]
  · rfl
  · isplitr; · iexact Hmw
    isplitl [HfO] <;> iassumption
  unfold restO
  iintro ⟨⟨HoD, Hb, HvO⟩, HO⟩
  iapply (zero_wp (m := bB) (x := x) (b := bV L) (a := t1.val) (i0 := 16 * p.val + 8) (.inl ⟨rfl, rfl, rfl⟩) (by decide) (by omega) (bot_eq p) (aw_eq t1) (ah_eq t1)
    (lo := 32#32) rfl rfl rfl ?_ ?_ 136 rfl _ _) $$ [HmB Hb]
  · exact fun _ _ _ => rfl
  · exact fun _ _ _ _ => rfl
  · isplitl [HmB] <;> iassumption
  iintro HmB Hb
  -- its units 1 to 4
  iapply (step_wp (m := bA) (m' := bB) (a := t1.val) (i0 := 16 * p.val + 8) 1 (by decide) (by omega) (85 * t1.val + 17 * 2) (16 * p.val + 8) (k0_off36_eq L t1 p 2)
    (cw := 17#32) rfl rfl ?_ 136 272 rfl rfl _ _) $$ [HfA HmB HvB HO Hb]
  · exact fun _ _ _ _ => rfl
  · isplitr; · iexact Hmw
    isplitl [HfA]; · iexact HfA
    isplitl [HmB HvB]; · unfold idle; isplitl [HmB]; · iapply inB_any $$ HmB
                         iexact HvB
    isplitl [HO] <;> iassumption
  iintro ⟨HfB, HiA, HO, Hb⟩
  iapply (step_wp (m := bB) (m' := bA) (a := t1.val) (i0 := 16 * p.val + 8) 2 (by decide) (by omega) (85 * t1.val + 17 * 3) (16 * p.val + 8) (k0_off36_eq L t1 p 3)
    (cw := 34#32) rfl rfl ?_ 272 408 rfl rfl _ _) $$ [HfB HiA HO Hb]
  · exact fun _ _ _ _ => rfl
  · isplitr; · iexact Hmw
    isplitl [HfB]; · iexact HfB
    isplitl [HiA]; · iexact HiA
    isplitl [HO] <;> iassumption
  iintro ⟨HfA, HiB, HO, Hb⟩
  iapply (step_wp (m := bA) (m' := bB) (a := t1.val) (i0 := 16 * p.val + 8) 3 (by decide) (by omega) (85 * t1.val + 17 * 4) (16 * p.val + 8) (k0_off36_eq L t1 p 4)
    (cw := 51#32) rfl rfl ?_ 408 544 rfl rfl _ _) $$ [HfA HiB HO Hb]
  · exact fun _ _ _ _ => rfl
  · isplitr; · iexact Hmw
    isplitl [HfA]; · iexact HfA
    isplitl [HiB]; · iexact HiB
    isplitl [HO] <;> iassumption
  iintro ⟨HfB, HiA, HO, Hb⟩
  iapply (unit_wait (m := bB) _ _) $$ [HfB HO]
  · isplitr; · iexact Hmw
    isplitl [HfB] <;> iassumption
  unfold here
  iintro ⟨⟨HmB, HvB⟩, Hx, HO⟩
  iapply (next_issue t1.val p ?_ _ _) $$ [Hx HiA]
  · exact fun _ => k0_off74_eq L t1 p
  · isplitl [Hx] <;> iassumption
  iintro HA
  iapply (unitSig_wp (m := bB) (x := x) (b := bV L) (a := t1.val) (i0 := 16 * p.val + 8) 4 (by decide) (lo := 0#32) (c0 := 68#32) (.inl ⟨rfl, rfl, rfl⟩) (by decide)
    rfl (by omega) rfl (by decide) ?_ 544 680 rfl rfl _ _) $$ [HmB Hb]
  · exact fun _ _ _ _ => rfl
  · isplitl [HmB] <;> iassumption
  iintro HmB Hb
  rw [show 2704 * t1.val + 52 * (16 * p.val + 8) = 2704 * t1.val + 832 * p.val + 416 by omega]
  iapply (stage_issue (2704 * t1.val + 832 * p.val + 416) (k0_off79_eq L t1 p) _ _) $$ [HoD Hb HvO]
  · isplitl [HoD]; · iexact HoD
    isplitl [Hb] <;> iassumption
  iintro HfO
  rw [show 2704 * t1.val + 832 * p.val + 416 + 416 = 2704 * t1.val + 832 * (p.val + 1) by omega]
  sl_step
  isplitr; · iexact Hmw
  isplitl [HO]; · iexact HO
  isplitl [HmB HvB]
  · unfold idle; isplitl [HmB]; · iapply inB_any $$ HmB
    iexact HvB
  isplitl [HA] <;> iassumption

end

end Cert.Proof.Yolo

end
-- ==== Proof.Anchor.lean ====
/-
  The anchor loop: one trip is the pair loop, then the last four image rows, copied in unit by unit and out once, each copy waited for
  at once. After three trips the tile's batch of the result is right.
-/
module

public import proofs.«01_k».proof.Proof.Pair

@[expose] public section

noncomputable section

namespace Cert.Proof.Yolo

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section Tail

variable {d : Dev nD} {c : Fin τ.nSC} {j : Fin τ.nSub} {x : S32x255x52x52.Idx → F .f32} {b a : Nat}
  {O : CellTallies nD τ sig (HIx 1)} {W : Waits sig (HIx 1)} {α : Type}

/-- A unit of the tail, copied in and waited for. -/
theorem tail_wp {sem : DmaSem sig} {off inb hsq hs hd ht} {sp' : Space} {s' : Shape} {e' : EltTy} {srcw : Memref sig .scVector sp' s' e'} {hs' hd'}
    (c0 r0 : Nat) (hoff : off = ![b, c0, r0, 0])
    (k : PUnit → Prog (TpuEff nD τ sig (Elt F) Λ₀ (.scVector c j)) α) (Q : α → sProp 𝕄) :
    iprop(Transfers.MayWaits (V d c j) ι₀ O ∗ xOwn d c j x b ∗ idle (F := F) d c j bT sem ∗ owed d c j O W)
      ⊢ iprop((iprop(xOwn d c j x b ∗ here d c j bT sem (xA x b c0 r0) ∗ owed d c j O W)
          -∗ wp frame (wpE (defs₀ (F := F)) 𝒱₀ (V d c j) none) Set.univ (k ⟨⟩) Q)
        -∗ wp frame (wpE (defs₀ (F := F)) 𝒱₀ (V d c j) none) Set.univ
            (Prog.lift (.enqueueDma (xWin 4 off inb hsq) (.here bT) (.dma sem) hs hd ht)
              >>= fun _ => Prog.lift (.waitDma2 sem srcw bT hs' hd') >>= k) Q) := by
  unfold idle anyB
  iintro ⟨#Hmw, Hx, ⟨⟨%f, Hm⟩, Hv⟩, HO⟩ Hk
  iapply (in_issue (x := x) (dst := bT) (sem := sem) (by decide) b c0 r0 hoff (Sd := bT.view.set) (Finset.Subset.refl _) (fd := f) _ Q) $$ [Hx Hm Hv]
  · isplitl [Hx]; · iexact Hx
    isplitl [Hm] <;> iassumption
  iintro HF
  iapply (copy_wait rfl k Q) $$ [HF HO]
  · isplitr; · iexact Hmw
    isplitl [HF] <;> iassumption
  iintro ⟨⟨HR, Hx⟩, Hv, HO⟩
  iapply Hk
  isplitl [Hx]; · iexact Hx
  isplitl [HR Hv]
  · unfold here inB inR
    icases HR with ⟨%g, HR, %hg⟩
    isplitl [HR]
    · iexists g; isplitl [HR]; · iexact HR
      ipureintro; exact fun y _ => hg y
    · iexact Hv
  iexact HO

/-- A later unit of the tail with its loop. -/
theorem tailStep_wp {sem : DmaSem sig} {off inb hsq hs hd ht} {sp' : Space} {s' : Shape} {e' : EltTy} {srcw : Memref sig .scVector sp' s' e'} {hs' hd'}
    (q : Nat) (hq : 0 < q ∧ q < 5) (hoff : off = ![b, 85 * a + 17 * q, 48, 0])
    {cw : BitVec 32} (hcw : cw.toNat = 17 * q) {lp : Scf.Loop 32} (hlp : lp.trips = 68) {hok : lp.OK}
    {body : Fin lp.trips → Unit → Prog (TpuEff nD τ sig (Elt F) Λ₀ (.scVector c j)) Unit}
    (hb : ∀ k u h0 h1, body k u = sigTrip bO bT lanes (Scalar.shrui (tw 0#32 k) 2#32) (Scalar.andi (tw 0#32 k) 3#32) cw h0 h1 (by decide))
    (T₀ T₁ : Nat) (hT₀ : T₀ = 17 * q * 4) (hT₁ : T₁ = 17 * (q + 1) * 4)
    (k : Unit → Prog (TpuEff nD τ sig (Elt F) Λ₀ (.scVector c j)) α) (Q : α → sProp 𝕄) :
    iprop(Transfers.MayWaits (V d c j) ι₀ O ∗ xOwn d c j x b ∗ anyB (F := F) d c j bT ∗ semVal (V d c j, .dma sem) 0 ∗ owed d c j O W
        ∗ outB d c j (Gh x b (2704 * a + 52 * 48)) (Done 4 T₀))
      ⊢ iprop((iprop(xOwn d c j x b ∗ anyB (F := F) d c j bT ∗ semVal (V d c j, .dma sem) 0 ∗ owed d c j O W ∗ outB d c j (Gh x b (2704 * a + 52 * 48)) (Done 4 T₁))
          -∗ wp frame (wpE (defs₀ (F := F)) 𝒱₀ (V d c j) none) Set.univ (k ⟨⟩) Q)
        -∗ wp frame (wpE (defs₀ (F := F)) 𝒱₀ (V d c j) none) Set.univ
            (Prog.lift (.enqueueDma (xWin 4 off inb hsq) (.here bT) (.dma sem) hs hd ht)
              >>= fun _ => Prog.lift (.waitDma2 sem srcw bT hs' hd') >>= fun _ => Scf.Loop.for lp hok ⟨⟩ body >>= k) Q) := by
  iintro ⟨#Hmw, Hx, Hm, Hv, HO, Ho⟩ Hk
  iapply (tail_wp (x := x) _ _ hoff _ Q) $$ [Hx Hm Hv HO]
  · isplitr; · iexact Hmw
    isplitl [Hx]; · iexact Hx
    unfold idle
    isplitl [Hm Hv]; · isplitl [Hm] <;> iassumption
    iexact HO
  unfold here
  iintro ⟨Hx, ⟨Hm, Hv⟩, HO⟩
  iapply (unitSig_wp (m := bT) (x := x) (b := b) (a := a) (i0 := 48) q hq.2 (.inr ⟨rfl, rfl, rfl⟩) (by decide) hcw (by decide) (by rw [hlp]; rfl)
    (by simp; omega) hb T₀ T₁ (by simp [hT₀]) hT₁ k Q) $$ [Hm Ho]
  · isplitl [Hm] <;> iassumption
  iintro Hm Ho
  iapply Hk
  isplitl [Hx]; · iexact Hx
  isplitl [Hm]; · iapply inB_any $$ Hm
  isplitl [Hv]; · iexact Hv
  isplitl [HO] <;> iassumption

/-- The first rows of the staging array, copied to the result's rows from `R` on and waited for. -/
theorem tailOut_wp {sem : DmaSem sig} {off inb hsq hs hd ht} {sp' : Space} {s' : Shape} {e' : EltTy} {srcw : Memref sig .scVector sp' s' e'} {off' inb' hs' hd'}
    (R : Nat) (hoff : off = ![b, R, 0])
    (k : PUnit → Prog (TpuEff nD τ sig (Elt F) Λ₀ (.scVector c j)) α) (Q : α → sProp 𝕄) :
    iprop(Transfers.MayWaits (V d c j) ι₀ O ∗ outD d c j x b R ∗ outB d c j (Gh x b R) (Done 4 340) ∗ semVal (V d c j, .dma sem) 0 ∗ owed d c j O W)
      ⊢ iprop((iprop(outD d c j x b (R + 208) ∗ anyO (F := F) d c j ∗ semVal (V d c j, .dma sem) 0 ∗ owed d c j O W)
          -∗ wp frame (wpE (defs₀ (F := F)) 𝒱₀ (V d c j) none) Set.univ (k ⟨⟩) Q)
        -∗ wp frame (wpE (defs₀ (F := F)) 𝒱₀ (V d c j) none) Set.univ
            (Prog.lift (.enqueueDma (bO.slice (Rect.unit (s := S416x85) ![0, 0] S208x85.size inb_S416x85_S208x85_0_0) (fun _ => rfl))
                (.here (oWin 208 off inb hsq)) (.dma sem) hs hd ht)
              >>= fun _ => Prog.lift (.waitDma2 sem srcw (oWin 208 off' inb' hsq) hs' hd') >>= k) Q) := by
  unfold outB
  iintro ⟨#Hmw, Ho, ⟨%f, Hb, %hf⟩, Hv, HO⟩ Hk
  iapply (out_issue (x := x) (src := bO.slice (Rect.unit (s := S416x85) ![0, 0] S208x85.size inb_S416x85_S208x85_0_0) (fun _ => rfl)) (sem := sem) (by decide) b R hoff
    (Ss := Finset.univ) (Finset.subset_univ _) (fs := f) ?_ _ Q) $$ [Ho Hb Hv]
  · intro y
    have h0 : (y 0).val < 208 := (y 0).isLt
    have h1 : (y 1).val < 85 := (y 1).isLt
    refine (hf _ (?_ : Done 4 340 (0 + 1 * (y 0).val) (0 + 1 * (y 1).val))).trans ?_
    · unfold Done
      constructor <;> omega
    · show tgt x b (R + (0 + 1 * (y 0).val)) (0 + 1 * (y 1).val) = _
      simp only [Nat.zero_add, Nat.one_mul]
  · isplitl [Ho]; · iexact Ho
    isplitl [Hb] <;> iassumption
  iintro HF
  iapply (copy_wait rfl k Q) $$ [HF HO]
  · isplitr; · iexact Hmw
    isplitl [HF] <;> iassumption
  iintro ⟨⟨Ho, Hb⟩, Hv, HO⟩
  iapply Hk
  isplitl [Ho]; · iexact Ho
  isplitl [Hb]; · unfold anyO; iexists f; iexact Hb
  isplitl [Hv] <;> iassumption

end Tail

section

variable (d : Dev nD) (L : grid0.Coords) (x : S32x255x52x52.Idx → F .f32)

/-- A semaphore of the tile at zero. -/
abbrev semZ (s : DmaSems sig S_) : sProp 𝕄 := semVal (V d (cV L) (jV L), .dma s.sem) 0

/-- The anchor loop's invariant before trip `a`: everything at rest, the result right up to the anchor's rows. -/
def anchorI (O : CellTallies nD τ sig (HIx 1)) (W : Waits sig (HIx 1)) (a : Nat) : sProp 𝕄 :=
  iprop(Transfers.MayWaits (V d (cV L) (jV L)) ι₀ O ∗ owed d (cV L) (jV L) O W ∗ xOwn d (cV L) (jV L) x (bV L)
    ∗ idle (F := F) d (cV L) (jV L) bA cc0_scratch4.sem ∗ idle (F := F) d (cV L) (jV L) bB cc0_scratch5.sem ∗ anyB (F := F) d (cV L) (jV L) bT
    ∗ semZ (F := F) d L cc0_scoped0 ∗ semZ (F := F) d L cc0_scoped1 ∗ semZ (F := F) d L cc0_scoped2 ∗ semZ (F := F) d L cc0_scoped3 ∗ semZ (F := F) d L cc0_scoped4
    ∗ semZ (F := F) d L cc0_scoped5 ∗ restO d L x (2704 * a))

variable {d L x} {O : CellTallies nD τ sig (HIx 1)} {W : Waits sig (HIx 1)}

set_option maxRecDepth 8000 in
set_option maxHeartbeats 4000000 in
/-- One trip of the anchor loop. -/
theorem anchor_trip (t1 : Fin k0_t1_loop.trips) (u : Unit) :
    anchorI d L x O W t1.val
      ⊢ wp frame (wpE (defs₀ (F := F)) 𝒱₀ (V d (cV L) (jV L)) none) Set.univ
          (k0_t1_body (F := F) L xV (Memref.isWhole_whole _) oV (Memref.isWhole_whole _) bA (Memref.isWhole_whole _) bB (Memref.isWhole_whole _)
            bT (Memref.isWhole_whole _) bO (Memref.isWhole_whole _) cc0_scratch4 cc0_scratch5 cc0_scratch6 cc0_scoped0 cc0_scoped1 cc0_scoped2
            cc0_scoped3 cc0_scoped4 cc0_scoped5 lanes t1 u)
          fun _ => anchorI d L x O W (t1.val + 1) := by
  have ht : t1.val < 3 := t1.isLt
  unfold anchorI
  unfold k0_t1_body
  rw [k0_part42_eq_skeleton, k0_part43_eq_skeleton, k0_part44_eq_skeleton]
  unfold k0_part42_skel k0_part43_skel k0_part44_skel
  simp only [Prog.bind_assoc, pure_bind]
  iintro ⟨#Hmw, HO, Hx, HiA, HiB, HT, Hr0, Hr1, Hr2, Hr3, Hr4, Hr5, Hout⟩
  -- the pair loop
  iapply (unit_issue (x := x) (m := bA) (85 * t1.val + 17 * 0) (16 * 0) (k0_off1_eq L t1) _ _) $$ [Hx HiA]
  · isplitl [Hx] <;> iassumption
  iintro HfA
  iapply (Scf.wp_for_bind frame (wpE (defs₀ (F := F)) 𝒱₀ (V d (cV L) (jV L)) none) Set.univ k0_t2_loop.lb k0_t2_loop.ub k0_t2_loop.st k0_t2_ok ⟨⟩ _
    (fun p _ => pairI d L x O W t1.val p) (pair_trip t1)) $$ [HO HiB HfA Hout]
  · unfold pairI
    rw [if_pos (by decide), if_pos rfl]
    isplitr; · iexact Hmw
    isplitl [HO]; · iexact HO
    isplitl [HiB]; · iexact HiB
    isplitl [HfA] <;> iassumption
  iintro %_ HI
  ihave HI := (show pairI d L x O W t1.val (Scf.trips k0_t2_loop.lb k0_t2_loop.ub k0_t2_loop.st) ⊢ pairI d L x O W t1.val 3 from BIBase.Entails.rfl) $$ HI
  unfold pairI
  rw [if_neg (by decide), if_neg (by decide), show 2704 * t1.val + 832 * 3 = 2704 * t1.val + 52 * 48 by omega]
  icases HI with ⟨-, HO, HiB, ⟨Hx, HiA⟩, Hout⟩
  iapply (out_wait ?_ _ _) $$ [Hout HO]
  · rfl
  · isplitr; · iexact Hmw
    isplitl [Hout] <;> iassumption
  unfold restO
  iintro ⟨⟨HoD, Hb, HvO⟩, HO⟩
  -- the last four image rows: unit 0
  iapply (tail_wp (x := x) (85 * t1.val + 17 * 0) 48 (k0_off81_eq L t1 0) _ _) $$ [Hx HT Hr0 HO]
  · isplitr; · iexact Hmw
    isplitl [Hx]; · iexact Hx
    unfold idle
    isplitl [HT Hr0]; · isplitl [HT] <;> iassumption
    iexact HO
  unfold here
  iintro ⟨Hx, ⟨HT, Hr0⟩, HO⟩
  iapply (zero_wp (m := bT) (x := x) (b := bV L) (a := t1.val) (i0 := 48) (.inr ⟨rfl, rfl, rfl⟩) (by decide) (by decide) rfl (aw_eq t1) (ah_eq t1)
    (lo := 16#32) rfl rfl rfl ?_ ?_ 68 rfl _ _) $$ [HT Hb]
  · exact fun _ _ _ => rfl
  · exact fun _ _ _ _ => rfl
  · isplitl [HT] <;> iassumption
  iintro HT Hb
  ihave HT := (inB_any (F := F)) $$ HT
  -- its units 1 to 4
  iapply (tailStep_wp (a := t1.val) 1 (by decide) (k0_off81_eq L t1 1) (cw := 17#32) rfl rfl ?_ 68 136 rfl rfl _ _) $$ [Hx HT Hr1 HO Hb]
  · exact fun _ _ _ _ => rfl
  · isplitr; · iexact Hmw
    isplitl [Hx]; · iexact Hx
    isplitl [HT]; · iexact HT
    isplitl [Hr1]; · iexact Hr1
    isplitl [HO] <;> iassumption
  iintro ⟨Hx, HT, Hr1, HO, Hb⟩
  iapply (tailStep_wp (a := t1.val) 2 (by decide) (k0_off81_eq L t1 2) (cw := 34#32) rfl rfl ?_ 136 204 rfl rfl _ _) $$ [Hx HT Hr2 HO Hb]
  · exact fun _ _ _ _ => rfl
  · isplitr; · iexact Hmw
    isplitl [Hx]; · iexact Hx
    isplitl [HT]; · iexact HT
    isplitl [Hr2]; · iexact Hr2
    isplitl [HO] <;> iassumption
  iintro ⟨Hx, HT, Hr2, HO, Hb⟩
  iapply (tailStep_wp (a := t1.val) 3 (by decide) (k0_off81_eq L t1 3) (cw := 51#32) rfl rfl ?_ 204 272 rfl rfl _ _) $$ [Hx HT Hr3 HO Hb]
  · exact fun _ _ _ _ => rfl
  · isplitr; · iexact Hmw
    isplitl [Hx]; · iexact Hx
    isplitl [HT]; · iexact HT
    isplitl [Hr3]; · iexact Hr3
    isplitl [HO] <;> iassumption
  iintro ⟨Hx, HT, Hr3, HO, Hb⟩
  iapply (tailStep_wp (a := t1.val) 4 (by decide) (k0_off81_eq L t1 4) (cw := 68#32) rfl rfl ?_ 272 340 rfl rfl _ _) $$ [Hx HT Hr4 HO Hb]
  · exact fun _ _ _ _ => rfl
  · isplitr; · iexact Hmw
    isplitl [Hx]; · iexact Hx
    isplitl [HT]; · iexact HT
    isplitl [Hr4]; · iexact Hr4
    isplitl [HO] <;> iassumption
  iintro ⟨Hx, HT, Hr4, HO, Hb⟩
  -- and out
  iapply (tailOut_wp (x := x) (2704 * t1.val + 52 * 48) (k0_off118_eq L t1) _ _) $$ [HoD Hb Hr5 HO]
  · isplitr; · iexact Hmw
    isplitl [HoD]; · iexact HoD
    isplitl [Hb]; · iexact Hb
    isplitl [Hr5] <;> iassumption
  iintro ⟨HoD, Hb, Hr5, HO⟩
  rw [show 2704 * t1.val + 52 * 48 + 208 = 2704 * (t1.val + 1) by omega]
  sl_step
  isplitr; · iexact Hmw
  isplitl [HO]; · iexact HO
  isplitl [Hx]; · iexact Hx
  isplitl [HiA]; · iexact HiA
  isplitl [HiB]; · iexact HiB
  isplitl [HT]; · iexact HT
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [HoD]; · iexact HoD
  isplitl [Hb] <;> iassumption

/-- The tile's run. -/
theorem tile_run :
    anchorI d L x O W 0
      ⊢ wp frame (wpE (defs₀ (F := F)) 𝒱₀ (V d (cV L) (jV L)) none) Set.univ
          (cc0__sc_body (F := F) L xV (Memref.isWhole_whole _) oV (Memref.isWhole_whole _) bA (Memref.isWhole_whole _) bB (Memref.isWhole_whole _)
            bT (Memref.isWhole_whole _) bO (Memref.isWhole_whole _) cc0_scratch4 cc0_scratch5 cc0_scratch6 cc0_scoped0 cc0_scoped1 cc0_scoped2
            cc0_scoped3 cc0_scoped4 cc0_scoped5)
          fun _ => anchorI d L x O W 3 := by
  rw [cc0__sc_body_eq_skeleton]
  unfold cc0__sc_body_skel
  iintro HI
  iapply (Scf.wp_for_bind frame (wpE (defs₀ (F := F)) 𝒱₀ (V d (cV L) (jV L)) none) Set.univ k0_t1_loop.lb k0_t1_loop.ub k0_t1_loop.st k0_t1_ok ⟨⟩ _
    (fun a _ => anchorI d L x O W a) anchor_trip) $$ HI
  iintro %_ HI
  sl_step
  iexact HI

end

end Cert.Proof.Yolo

end
-- ==== Proof.Tile.lean ====
/-
  The tile's obligation: from its batches of the two arrays, its own buffers and its own semaphores at zero, the body runs and leaves the
  batch of the result right and everything else as it was.
-/
module

public import proofs.«01_k».proof.Proof.Anchor

@[expose] public section

noncomputable section

namespace Cert.Proof.Yolo

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section

variable (d : Dev nD) (L : grid0.Coords)

/-! ## The tile's own semaphores and buffers -/

/-- The semaphores the body names. -/
def semSet : Finset (SemLoc sig) :=
  {.dma cc0_scratch4.sem, .dma cc0_scratch5.sem, .dma cc0_scratch6.sem, .dma cc0_scoped0.sem, .dma cc0_scoped1.sem, .dma cc0_scoped2.sem,
    .dma cc0_scoped3.sem, .dma cc0_scoped4.sem, .dma cc0_scoped5.sem}

/-- The buffers the body names. -/
def bufSet : Finset (Ref sig .scVector) := {cc0_scratch0, cc0_scratch1, cc0_scratch2, cc0_scratch3}

def semEmb : SemLoc sig ↪ GSem nD τ sig := ⟨fun s => (V d (cV L) (jV L), s), fun _ _ h => congrArg Prod.snd h⟩
def bufEmb : Ref sig .scVector ↪ DevRef τ sig := ⟨(Proc.scVector (cV L) (jV L)).devRef, Proc.devRef_injective _⟩

theorem semSet_sub : semSet.map (semEmb d L) ⊆ ownCells (V d (cV L) (jV L)) := by
  intro g hg
  obtain ⟨s, hs, rfl⟩ := Finset.mem_map.mp hg
  exact mem_ownCells.mpr ⟨rfl, (show ∀ s ∈ semSet, s.isScoped .scVector = true by decide) s hs⟩

theorem bufSet_sub : bufSet.map (bufEmb L) ⊆ ownRefs (τ := τ) (.scVector (cV L) (jV L)) := by
  intro b hb
  obtain ⟨r, hr, rfl⟩ := Finset.mem_map.mp hb
  refine SparseCore.Cfg.mem_ownRefs_of_owner ?_
  have : r = cc0_scratch0 ∨ r = cc0_scratch1 ∨ r = cc0_scratch2 ∨ r = cc0_scratch3 := by simpa [bufSet] using hr
  rcases this with rfl | rfl | rfl | rfl <;> rfl

/-- The tile's own semaphores beyond those. -/
def semRest : sProp 𝕄 := bigSep (ownCells (V d (cV L) (jV L)) \ semSet.map (semEmb d L)) fun g => semVal g 0

/-- The tile's own buffers beyond those. -/
def bufRest : sProp 𝕄 :=
  bigSep (ownRefs (τ := τ) (.scVector (cV L) (jV L)) \ bufSet.map (bufEmb L)) fun b => iprop(∃ f, ((d, b) : Loc nD τ sig) ↦{fullShare} f)

theorem ownSems_eq :
    (ownSems0 (V d (cV L) (jV L)) : sProp 𝕄)
      = iprop((semZ (F := F) d L cc0_scratch4 ∗ semZ (F := F) d L cc0_scratch5 ∗ semZ (F := F) d L cc0_scratch6 ∗ semZ (F := F) d L cc0_scoped0
          ∗ semZ (F := F) d L cc0_scoped1 ∗ semZ (F := F) d L cc0_scoped2 ∗ semZ (F := F) d L cc0_scoped3 ∗ semZ (F := F) d L cc0_scoped4
          ∗ semZ (F := F) d L cc0_scoped5) ∗ semRest (F := F) d L) := by
  unfold SparseCore.Cfg.ownSems0
  rw [bigSep_sdiff_split (semSet_sub d L), bigSep_map]
  unfold semSet
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]
  rfl

theorem ownBufs_eq :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)) ∗ bufRest (F := F) d L) := by
  unfold SparseCore.Cfg.ownBufs
  refine (bigSep_sdiff_split (bufSet_sub L)).trans ?_
  rw [bigSep_map]
  unfold bufSet
  rw [SparseCore.bigSep_insert' (by decide), SparseCore.bigSep_insert' (by decide), SparseCore.bigSep_insert' (by decide), bigSep_singleton]
  rfl

/-- A whole buffer at some contents is the memref's. -/
theorem any_whole {r l : Nat} (b : Ref sig .scVector) (m : Memref sig .scVector .vmem (Sb r l) .f32) (hl : m.view.loc (V d (cV L) (jV L)) = (V d (cV L) (jV L)).loc b)
    (hs : m.view.set = Finset.univ) :
    (iprop(∃ f, (V d (cV L) (jV L)).loc b ↦{fullShare} f) : sProp 𝕄) = anyB (F := F) d (cV L) (jV L) m := by
  unfold anyB
  rw [hs, ← hl]

/-! ## The batches -/

abbrev xLoc (d : Dev nD) : Loc nD τ sig := (SparseCore.T d).loc main_arg0
abbrev oLoc (d : Dev nD) : Loc nD τ sig := (SparseCore.T d).loc main_v0

variable (x : S32x255x52x52.Idx → F .f32)

/-- Batch `b` of the input, and of the result at contents `g`. -/
def xPart (d : Dev nD) (b : Nat) : sProp 𝕄 := iprop(xLoc d ↦[xSet b]{fullShare} x)
def oPart (d : Dev nD) (b : Nat) (g : S32x8112x85.Idx → F .f32) : sProp 𝕄 := iprop(oLoc d ↦[oSet b]{fullShare} g)

theorem oPart_start (b : Nat) (g : S32x8112x85.Idx → F .f32) : oPart d b g ⊢ outD d (cV L) (jV L) x b (2704 * 0) := by
  unfold oPart outD
  iintro H
  iexists g; isplitl [H]; · iexact H
  ipureintro
  intro y _ h
  exact absurd h (by omega)

theorem oPart_end (b : Nat) : outD d (cV L) (jV L) x b (2704 * 3) ⊢ oPart d b (result x) := by
  unfold oPart outD
  iintro ⟨%g, H, %hg⟩
  iapply (Entails.of_eq (pointsTo_congr ?_)) $$ H
  intro y hy
  have h0 : (y 0).val = b := (Finset.mem_filter.mp hy).2
  have h1 : (y 1).val < 8112 := (y 1).isLt
  rw [hg y h0 (by omega)]
  show _ = tgt x (y 0).val (y 1).val (y 2).val
  rw [h0]

/-- The tile's run, as the launch asks for it. -/
theorem tile_body (hF : (K (F := F)).Facts) (g : S32x8112x85.Idx → F .f32) (O : CellTallies nD τ sig (HIx 1)) (W : Waits sig (HIx 1)) (hO : ∀ g, O g none = 0) :
    iprop(levAts (K (F := F)).L (K (F := F)).lev ∗ emp ∗ (xPart x d (bV L) ∗ oPart d (bV L) g)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body (F := F) L xV (Memref.isWhole_whole _) oV (Memref.isWhole_whole _) bA (Memref.isWhole_whole _) bB (Memref.isWhole_whole _)
            bT (Memref.isWhole_whole _) bO (Memref.isWhole_whole _) cc0_scratch4 cc0_scratch5 cc0_scratch6 cc0_scoped0 cc0_scoped1 cc0_scoped2
            cc0_scoped3 cc0_scoped4 cc0_scoped5)
          fun _ => iprop((xPart x d (bV L) ∗ oPart d (bV L) (result x))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems_eq, ownBufs_eq,
    any_whole d L cc0_scratch0 bA rfl (View.set_whole _), any_whole d L cc0_scratch1 bB rfl (View.set_whole _), any_whole d L cc0_scratch2 bT rfl (View.set_whole _)]
  iintro ⟨#Hlv, -, ⟨Hx, Ho⟩, ⟨⟨HA, HB, HT, HO7⟩, Hbufs⟩, ⟨⟨Hs4, Hs5, Hs6, Hr0, Hr1, Hr2, Hr3, Hr4, Hr5⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave HoD := (oPart_start d L x (bV L) g) $$ Ho
  iapply (wp_wand_r _ _ _) $$ [-]
  isplitl [Hmw HO Hx HA HB HT HO7 Hs4 Hs5 Hs6 Hr0 Hr1 Hr2 Hr3 Hr4 Hr5 HoD]
  · iapply (tile_run (d := d) (L := L) (x := x) (O := O) (W := W))
    unfold anchorI idle restO owed xOwn anyO xPart
    isplitl [Hmw]; · iexact Hmw
    isplitl [HO]
    · iexists W; isplitr; · ipureintro; exact fun p h => Or.inl h
      iexact HO
    isplitl [Hx]; · iexact Hx
    isplitl [HA Hs4]; · isplitl [HA]; · iexact HA
                        iexact Hs4
    isplitl [HB Hs5]; · isplitl [HB]; · iexact HB
                        iexact Hs5
    isplitl [HT]; · iexact HT
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [HoD]; · iexact HoD
    isplitl [HO7]; · iexact HO7
    iexact Hs6
  iintro %_ H
  unfold anchorI idle restO owed xOwn anyO xPart
  icases H with ⟨-, HO, Hx, ⟨HA, Hs4⟩, ⟨HB, Hs5⟩, HT, Hr0, Hr1, Hr2, Hr3, Hr4, Hr5, HoD, HO7, Hs6⟩
  ihave Ho := (oPart_end d L x (bV L)) $$ HoD
  isplitl [Hx Ho]; · isplitl [Hx]; · iexact Hx
                     iexact Ho
  isplitl [HA HB HT HO7 Hbufs]
  · isplitr [Hbufs]
    · isplitl [HA]; · iexact HA
      isplitl [HB]; · iexact HB
      isplitl [HT]; · iexact HT
      iexact HO7
    iexact Hbufs
  isplitr [HO]
  · isplitr [Hsems]
    · isplitl [Hs4]; · iexact Hs4
      isplitl [Hs5]; · iexact Hs5
      isplitl [Hs6]; · iexact Hs6
      isplitl [Hr0]; · iexact Hr0
      isplitl [Hr1]; · iexact Hr1
      isplitl [Hr2]; · iexact Hr2
      isplitl [Hr3]; · iexact Hr3
      isplitl [Hr4]; · iexact Hr4
      iexact Hr5
    iexact Hsems
  iexact HO

end

end Cert.Proof.Yolo

end
-- ==== Proof.Launch.lean ====
/-
  The launch: the two arrays cut into their batches, one for each tile of each of the two cores; the one call; the batches joined again. The
  run of the whole program follows, with the result's value and the input kept.
-/
module

public import proofs.«01_k».proof.Proof.Tile
public import Idealize.ShloMosaic.Lib.SparseCore.Quiescent

@[expose] public section

noncomputable section

namespace Cert.Proof.Yolo

open Cert.KernelIdeal Cert.KernelIdeal.Gen
open Idealize.ShloMosaic
open Idealize.ShloMosaic.SparseCore (S V T)
open Idealize.ShloMosaic.SparseCore.Cfg (HIx Pay)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The batches split and join -/

/-- A whole array is its batches: core `c`'s tile `i` has batch `2 i + c`. -/
theorem batches (ℓ : Loc nD τ sig) (f : Buf (Elt F) ℓ) (bat : ℓ.2.ty.shape.Idx → Nat) (hb : ∀ y, bat y < 32) :
    (ℓ ↦{fullShare} f : sProp 𝕄)
      = bigSep Finset.univ fun c : Fin 2 => bigSep Finset.univ fun i : Fin 16 => ℓ ↦[Finset.univ.filter fun y => bat y = 2 * i.val + c.val]{fullShare} f := by
  have hin : ∀ c : Fin 2, (ℓ ↦[Finset.univ.filter fun y => bat y % 2 = c.val]{fullShare} f : sProp 𝕄)
      = bigSep Finset.univ fun i : Fin 16 => ℓ ↦[Finset.univ.filter fun y => bat y = 2 * i.val + c.val]{fullShare} f := fun c => by
    rw [← pointsTo_biUnion Finset.univ (ℓ := ℓ) (fun i : Fin 16 => Finset.univ.filter fun y => bat y = 2 * i.val + c.val)
      (fun i _ j _ h => Finset.disjoint_filter.mpr fun y _ h1 h2 => h (Fin.ext (by omega)))]
    congr 1
    ext y
    simp only [Finset.mem_filter, Finset.mem_univ, true_and, Finset.mem_biUnion]
    refine ⟨fun h => ⟨⟨bat y / 2, by have := hb y; omega⟩, ?_⟩, fun ⟨i, h⟩ => ?_⟩
    · show bat y = 2 * (bat y / 2) + c.val
      omega
    · have := c.isLt
      omega
  rw [← bigSep_congr fun c _ => hin c, ← pointsTo_biUnion Finset.univ (ℓ := ℓ) (fun c : Fin 2 => Finset.univ.filter fun y => bat y % 2 = c.val)
    (fun i _ j _ h => Finset.disjoint_filter.mpr fun y _ h1 h2 => h (Fin.ext (h1.symm.trans h2)))]
  congr 1
  ext y
  simp only [Finset.mem_filter, Finset.mem_univ, true_and, Finset.mem_biUnion]
  exact ⟨fun _ => ⟨⟨bat y % 2, Nat.mod_lt _ (by omega)⟩, rfl⟩, fun _ => trivial⟩

/-- What core `c`'s tile `i` has of the two arrays, at contents `g` of the result. -/
def piece (d : Dev nD) (c i : Nat) (g : S32x8112x85.Idx → F .f32) : sProp 𝕄 :=
  iprop(xPart (m (xLoc d)) d (2 * i + c) ∗ oPart d (2 * i + c) g)

/-- The two arrays whole. -/
def both (d : Dev nD) (g : S32x8112x85.Idx → F .f32) : sProp 𝕄 := iprop((xLoc d ↦{fullShare} m (xLoc d)) ∗ (oLoc d ↦{fullShare} g))

theorem both_eq (d : Dev nD) (g : S32x8112x85.Idx → F .f32) :
    both m d g = bigSep Finset.univ fun c : Fin 2 => bigSep Finset.univ fun i : Fin 16 => piece m d c.val i.val g := by
  unfold both piece
  simp only [bigSep_sep']
  rw [batches (xLoc d) (m (xLoc d)) (fun y => (y 0).val) (fun y => (y 0).isLt), batches (oLoc d) g (fun y => (y 0).val) (fun y => (y 0).isLt)]
  rfl

/-! ## The call's protocol -/

/-- Each core is started with its batches and each tile with its own; they come back with the result's value. -/
def P : (K (F := F)).Pay (nD := nD) (Val := Elt F) (Name := ℕ) (U := UU) where
  st := fun q d c => match q with | 0 => bigSep Finset.univ fun i : Fin 16 => piece m d c.val i.val (m (oLoc d))
  dn := fun q d c => match q with | 0 => bigSep Finset.univ fun i : Fin 16 => piece m d c.val i.val (result (m (xLoc d)))
  go := fun q d c i => match q with | 0 => piece m d c.val i.val (m (oLoc d))
  td := fun q d c i => match q with | 0 => piece m d c.val i.val (result (m (xLoc d)))
  x := fun _ _ => iprop(emp)

instance piece_storable (d : Dev nD) (c i : Nat) (g : S32x8112x85.Idx → F .f32) : BI.Storable (upEmb : UEmb _ 𝕄) (piece m d c i g) := by
  unfold piece xPart oPart
  infer_instance

instance P_storable : (P (F := F) m).IsStorable where
  st q d c := match q with | 0 => (inferInstance : BI.Storable (upEmb : UEmb _ 𝕄) (bigSep Finset.univ fun i : Fin 16 => piece m d c.val i.val (m (oLoc d))))
  dn q d c := match q with
    | 0 => (inferInstance : BI.Storable (upEmb : UEmb _ 𝕄) (bigSep Finset.univ fun i : Fin 16 => piece m d c.val i.val (result (m (xLoc d)))))
  go q d c i := match q with | 0 => (inferInstance : BI.Storable (upEmb : UEmb _ 𝕄) (piece m d c.val i.val (m (oLoc d))))
  td q d c i := match q with | 0 => (inferInstance : BI.Storable (upEmb : UEmb _ 𝕄) (piece m d c.val i.val (result (m (xLoc d)))))

/-- A tile's coordinates from its core and its place in it. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs. -/
theorem defs₀_vector (c : Fin τ.nSC) (s : Fin τ.nSub) :
    defs₀ (F := F) (.scVector c s) 0 ()
      = SparseCore.onTile hcore0 hsub0 (fun c s => cc0__sc_body (F := F) (coordsV c s) xV (Memref.isWhole_whole _) oV (Memref.isWhole_whole _)
          bA (Memref.isWhole_whole _) bB (Memref.isWhole_whole _) bT (Memref.isWhole_whole _) bO (Memref.isWhole_whole _) cc0_scratch4 cc0_scratch5
          cc0_scratch6 cc0_scoped0 cc0_scoped1 cc0_scoped2 cc0_scoped3 cc0_scoped4 cc0_scoped5) ⟨⟩ c s := rfl

theorem tileObl (hF : (K (F := F)).Facts) : (K (F := F)).TileObl (D₁ (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D₁ (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (m (xLoc d)) hF (m (oLoc d)) O W hO

theorem vecSplit : (K (F := F)).VecSplit' (P m) 0 := by
  intro d c
  show (bigSep Finset.univ fun i : Fin 16 => piece m d c.val i.val (m (oLoc d))) ⊢ |={Set.univ}=> iprop(
      (bigSep Finset.univ fun i : Fin 16 => piece m d c.val i.val (m (oLoc d)))
      ∗ ((bigSep Finset.univ fun i : Fin 16 => piece m d c.val i.val (result (m (xLoc d))))
          -∗ bigSep Finset.univ fun i : Fin 16 => piece m d c.val i.val (result (m (xLoc d)))))
  iintro H; imodintro
  isplitl [H]; · iexact H
  iintro H; iexact H

/-! ## The launch element: the handshakes' rounds and nothing else -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0)) := by
  unfold unscopedBufs
  rw [show (Finset.univ.filter fun b : Ref sig .tc => ¬ b.isScoped) = {main_arg0, main_v0} by decide, SparseCore.bigSep_insert' (by decide), bigSep_singleton]

theorem st0_eq (d : Dev nD) : (bigSep Finset.univ fun c : Fin ((K (F := F)).nCore 0) => (P m).st 0 d c) = both m d (m (oLoc d)) :=
  (both_eq m d (m (oLoc d))).symm
theorem dn0_eq (d : Dev nD) : (bigSep Finset.univ fun c : Fin ((K (F := F)).nCore 0) => (P m).dn 0 d c) = both m d (result (m (xLoc d))) :=
  (both_eq m d (result (m (xLoc d)))).symm

/-- What the program ends with: the input kept, the result at its value. -/
abbrev FIN (d : Dev nD) : sProp 𝕄 := both m d (result (m (xLoc d)))

/-- The program on device `d`: the one call, from the two arrays. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D₁ (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D₁ (F := F)) 𝒱 (EH := EH) (P := P m) κ d 0) $$ [Hst Hx Ho Hb Hts]
  isplitr; · iexact Hctx
  isplitl [Hst]; · iexact Hst
  isplitl [Hx Ho]
  · rw [st0_eq]
    unfold both
    isplitl [Hx]; · iexact Hx
    iexact Ho
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop := s'.mem.mem (oLoc d) = result (m (xLoc d)) ∧ s'.mem.mem (xLoc d) = m (xLoc d)

theorem hfin (d : Dev nD) (s' : Phys nD τ sig (Elt F)) : iprop(FIN m d ∗ SI s') ⊢ (⌜fq m d s'⌝ : sProp 𝕄) := by
  unfold FIN both
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := result (m (xLoc d)))) $$ [HSI Ho]
  · isplitl [HSI] <;> iassumption
  icases H with %ho
  ipureintro; exact ⟨funext fun i => ho i (Finset.mem_univ i), funext fun i => hx i (Finset.mem_univ i)⟩

/-! ## The program's run -/

/-- Every run ends with the result's value in the result, the input kept, and every semaphore at zero. -/
def QC : PUnit × MemSt nD τ sig (Elt F) → Prop := fun r =>
  (∀ c : Dev nD, r.2.mem (oLoc c) = result (m (xLoc c)) ∧ r.2.mem (xLoc c) = m (xLoc c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D₁ (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Yolo

end
-- ==== Proof.Anchors.lean ====
/-
  The scalars of the two programs over the extended reals: the kernel's sigmoid is the reference's, and its polynomial in the anchor's number
  is the reference's anchor over the stride.
-/
module

public import proofs.«01_k».proof.Proof.Target
public import Idealize.ShloMosaic.PureOps.Ideal
public import Idealize.ShloMosaic.PureOps.Ideal.Laws

@[expose] public section

noncomputable section

namespace Cert.Proof.Yolo

open Idealize.ShloMosaic

/-- The word of a float, as the real it stands for. -/
theorem word_eight : Ideal.ofBits .f32 0x41000000#32 = ((8 : ℝ) : EReal) := by simp [Ideal.ofBits, Ideal.ieee, -EReal.coe_mul]; norm_num
theorem word_w0 : Ideal.ofBits .f32 0x3FA00000#32 = ((5 / 4 : ℝ) : EReal) := by simp [Ideal.ofBits, Ideal.ieee, -EReal.coe_mul]; norm_num
theorem word_w1 : Ideal.ofBits .f32 0x3D800000#32 = ((1 / 16 : ℝ) : EReal) := by simp [Ideal.ofBits, Ideal.ieee, -EReal.coe_mul]; norm_num
theorem word_w2 : Ideal.ofBits .f32 0x3F300000#32 = ((11 / 16 : ℝ) : EReal) := by simp [Ideal.ofBits, Ideal.ieee, -EReal.coe_mul]; norm_num
theorem word_h0 : Ideal.ofBits .f32 0x3FD00000#32 = ((13 / 8 : ℝ) : EReal) := by simp [Ideal.ofBits, Ideal.ieee, -EReal.coe_mul]; norm_num
theorem word_h1 : Ideal.ofBits .f32 0x40680000#32 = ((29 / 8 : ℝ) : EReal) := by simp [Ideal.ofBits, Ideal.ieee, -EReal.coe_mul]; norm_num
theorem word_h2 : Ideal.ofBits .f32 0x3FC00000#32 = ((3 / 2 : ℝ) : EReal) := by simp [Ideal.ofBits, Ideal.ieee, -EReal.coe_mul]; norm_num

/-- The reference's anchors, as the words its table holds: width and height of each. -/
def anchorWord (a k : Nat) : BitVec 32 :=
  if k = 0 then (if a = 0 then 0x41200000#32 else if a = 1 then 0x41800000#32 else 0x42040000#32)
  else (if a = 0 then 0x41500000#32 else if a = 1 then 0x41F00000#32 else 0x41B80000#32)

/-- The same as reals. -/
def anchorReal (a k : Nat) : ℝ :=
  if k = 0 then (if a = 0 then 10 else if a = 1 then 16 else 33) else (if a = 0 then 13 else if a = 1 then 30 else 23)

theorem word_anchor (a k : Nat) : Ideal.ofBits .f32 (anchorWord a k) = ((anchorReal a k : ℝ) : EReal) := by
  unfold anchorWord anchorReal
  split_ifs <;> simp [Ideal.ofBits, Ideal.ieee, -EReal.coe_mul] <;> norm_num

/-- An anchor's side over the stride. -/
theorem anchor_div (a k : Nat) :
    Ideal.div (Ideal.ofBits .f32 (anchorWord a k)) (Ideal.ofBits .f32 0x41000000#32) = ((anchorReal a k / 8 : ℝ) : EReal) := by
  rw [word_anchor, word_eight, Ideal.div_coe (by norm_num), ← EReal.coe_mul]
  congr 1
  ring

/-- The number of an anchor, made a float. -/
theorem anchor_number (a : Nat) (ha : a < 3) : ((BitVec.ofNat 32 a).toInt : ℝ) = (a : ℝ) := by
  interval_cases a <;> simp

/-- The kernel's width of anchor `a` is the reference's over the stride. -/
theorem awS_eq (a : Nat) (ha : a < 3) :
    (awS (F := Ideal) (BitVec.ofNat 32 a) : EReal) = Ideal.div (Ideal.ofBits .f32 (anchorWord a 0)) (Ideal.ofBits .f32 0x41000000#32) := by
  rw [anchor_div]
  show Ideal.ofBits .f32 0x3FA00000#32 + ((((BitVec.ofNat 32 a).toInt : ℝ) : EReal))
    * (Ideal.ofBits .f32 0x3D800000#32 + Ideal.ofBits .f32 0x3F300000#32 * ((((BitVec.ofNat 32 a).toInt : ℝ) : EReal))) = _
  rw [word_w0, word_w1, word_w2, anchor_number a ha, ← EReal.coe_mul, ← EReal.coe_add, ← EReal.coe_mul, ← EReal.coe_add]
  congr 1
  unfold anchorReal
  interval_cases a <;> norm_num

/-- The kernel's height of anchor `a` is the reference's over the stride. -/
theorem ahS_eq (a : Nat) (ha : a < 3) :
    (ahS (F := Ideal) (BitVec.ofNat 32 a) : EReal) = Ideal.div (Ideal.ofBits .f32 (anchorWord a 1)) (Ideal.ofBits .f32 0x41000000#32) := by
  rw [anchor_div]
  show Ideal.ofBits .f32 0x3FD00000#32 + ((((BitVec.ofNat 32 a).toInt : ℝ) : EReal))
    * (Ideal.ofBits .f32 0x40680000#32 - Ideal.ofBits .f32 0x3FC00000#32 * ((((BitVec.ofNat 32 a).toInt : ℝ) : EReal))) = _
  rw [word_h0, word_h1, word_h2, anchor_number a ha, ← EReal.coe_mul, ← EReal.coe_sub, ← EReal.coe_mul, ← EReal.coe_add]
  congr 1
  unfold anchorReal
  interval_cases a <;> norm_num

/-- The reference's sigmoid of an element. -/
def rSg (v : EReal) : EReal :=
  Ideal.div (Ideal.ofBits .f32 0x3F800000#32) (Ideal.ofBits .f32 0x3F800000#32 + Ideal.exp (-v))

/-- The kernel's sigmoid is the reference's: `0 - v` is `-v`. -/
theorem sg_eq (v : EReal) : (sg (F := Ideal) v : EReal) = rSg v := by
  show Ideal.div (Ideal.ofBits .f32 0x3F800000#32) (Ideal.ofBits .f32 0x3F800000#32 + Ideal.exp (Ideal.ofBits .f32 0x00000000#32 - v)) = _
  rw [Ideal.ofBits_zero_f32, zero_sub]
  rfl

end Cert.Proof.Yolo

end
-- ==== Proof.Reference.lean ====
/-
  The reference's result read at an index: each of its stages named, and each read at its coordinates.
-/
module

public import proofs.«01_k».proof.Proof.Anchors
public import proofs.«01_k».proof.Proof.Gen.ReferenceIdeal.Run
public import Idealize.ShloMosaic.Lib.Pipeline.Value
public import Idealize.ShloMosaic.Lib.ValueIdx

@[expose] public section

noncomputable section

namespace Cert.Proof.YoloRef

open Cert.ReferenceIdeal Cert.ReferenceIdeal.Gen
open Cert.Proof.Yolo (xIx xAt rSg sg_eq anchorWord awS_eq ahS_eq)
open Idealize.ShloMosaic
open Idealize.ShloMosaic.ValueIdx (ix1 ix2 ix3 ix4 ix5)

variable (x : FVec Ideal S32x255x52x52 .f32)

/-! ## The input as the network's predictions -/

/-- The predictions: batch, anchor, row, column, attribute. -/
def pred : FVec Ideal S32x3x52x52x85 .f32 :=
  transpose S32x3x52x52x85 [0, 1, 3, 4, 2] (shapeCast S32x3x85x52x52 x shapeCasts_S32x255x52x52_S32x3x85x52x52) transposes_S32x3x85x52x52_S32x3x52x52x85_0_1_3_4_2

theorem pred_at (b : Fin 32) (a : Fin 3) (r w : Fin 52) (c : Fin 85) :
    pred x (ix5 b a r w c) = xAt (F := Ideal) x b.val (85 * a.val + c.val) r.val w.val := by
  refine (transpose_apply _ _ _ _ (ix5 b a c r w) (fun k => by fin_cases k <;> rfl)).trans
    (shapeCast_apply _ _ _ (xIx b.val (85 * a.val + c.val) r.val w.val) ?_)
  rw [Shape.rowMajor_val_four, Shape.rowMajor_val_five]
  have := b.isLt; have := a.isLt; have := r.isLt; have := w.isLt; have := c.isLt
  show ((b.val % 32 * 255 + (85 * a.val + c.val) % 255) * 52 + r.val % 52) * 52 + w.val % 52 = (((b.val * 3 + a.val) * 85 + c.val) * 52 + r.val) * 52 + w.val
  omega

/-- Attribute `k` of the predictions. -/
def chan (k : Nat) (h : S32x3x52x52x85.Slices ![0, 0, 0, 0, k] S32x3x52x52x1) : FVec Ideal S32x3x52x52 .f32 :=
  shapeCast S32x3x52x52 (extractStridedSlice S32x3x52x52x1 ![0, 0, 0, 0, k] (pred x) h) shapeCasts_S32x3x52x52x1_S32x3x52x52

theorem chan_at (k : Nat) (h) (hk : k < 85) (b : Fin 32) (a : Fin 3) (r w : Fin 52) :
    chan x k h (ix4 b a r w) = xAt (F := Ideal) x b.val (85 * a.val + k) r.val w.val := by
  refine (shapeCast_apply _ _ _ (ix5 b a r w (0 : Fin 1)) ?_).trans
    ((extractStridedSlice_apply _ _ _ _ (ix5 b a r w ⟨k, hk⟩) (fun i => by fin_cases i <;> simp)).trans (pred_at x b a r w ⟨k, hk⟩))
  rw [Shape.rowMajor_val_four, Shape.rowMajor_val_five]
  simp

/-! ## The sigmoid -/

/-- The sigmoid of an array. -/
def sigm {s : Shape} (hb : S_.BroadcastsInDim s ![]) (v : FVec Ideal s .f32) : FVec Ideal s .f32 :=
  Host.divf (broadcastInDim s ![] hb (constant S_ .f32 0x3F800000#32))
    (addf (broadcastInDim s ![] hb (constant S_ .f32 0x3F800000#32)) (Host.exp (Host.negf v)))

theorem sigm_at {s : Shape} (hb : S_.BroadcastsInDim s ![]) (v : FVec Ideal s .f32) (i : s.Idx) : sigm hb v i = rSg (v i) := rfl

/-! ## The grid and the anchors -/

/-- The columns' numbers, at every place of the grid. -/
def gridX : FVec Ideal S32x3x52x52 .f32 :=
  broadcastInDim S32x3x52x52 ![0, 1, 2, 3] bcast_S1x1x1x52_S32x3x52x52_0_1_2_3 (shapeCast S1x1x1x52 (sitofp .f32 (iotaInDim S52 32 0)) shapeCasts_S52_S1x1x1x52)

/-- The rows' numbers, at every place of the grid. -/
def gridY : FVec Ideal S32x3x52x52 .f32 :=
  broadcastInDim S32x3x52x52 ![0, 1, 2, 3] bcast_S1x1x52x1_S32x3x52x52_0_1_2_3 (shapeCast S1x1x52x1 (sitofp .f32 (iotaInDim S52 32 0)) shapeCasts_S52_S1x1x52x1)

theorem gridX_at (b : Fin 32) (a : Fin 3) (r w : Fin 52) : gridX (ix4 b a r w) = FloatOps.sitofp (F := Ideal) .f32 (BitVec.ofNat 32 w.val) := by
  refine (broadcastInDim_apply _ _ _ _ (ix4 (0 : Fin 1) (0 : Fin 1) (0 : Fin 1) w) (fun i => by fin_cases i <;> rfl)).trans
    ((shapeCast_apply _ _ _ (ix1 w) ?_).trans rfl)
  rw [Shape.rowMajor_val_one, Shape.rowMajor_val_four]
  simp

theorem gridY_at (b : Fin 32) (a : Fin 3) (r w : Fin 52) : gridY (ix4 b a r w) = FloatOps.sitofp (F := Ideal) .f32 (BitVec.ofNat 32 r.val) := by
  refine (broadcastInDim_apply _ _ _ _ (ix4 (0 : Fin 1) (0 : Fin 1) r (0 : Fin 1)) (fun i => by fin_cases i <;> rfl)).trans
    ((shapeCast_apply _ _ _ (ix1 r) ?_).trans rfl)
  rw [Shape.rowMajor_val_one, Shape.rowMajor_val_four]
  simp

/-- The anchors' sides over the stride. -/
def anch : FVec Ideal S3x2 .f32 :=
  Host.divf (fun i => FloatOps.ofBits .f32 (lit0 (S3x2.rowMajor i))) (broadcastInDim S3x2 ![] bcast_S_S3x2 (constant S_ .f32 0x41000000#32))

theorem anch_at (a : Fin 3) (k : Fin 2) :
    anch (ix2 a k) = Ideal.div (Ideal.ofBits .f32 (anchorWord a.val k.val)) (Ideal.ofBits .f32 0x41000000#32) := by
  have hrm : S3x2.rowMajor (ix2 a k) = (⟨a.val * 2 + k.val, by omega⟩ : Fin 6) := Fin.ext (by rw [Shape.rowMajor_val_two]; rfl)
  show Ideal.div (Ideal.ofBits .f32 (lit0 (S3x2.rowMajor (ix2 a k)))) (Ideal.ofBits .f32 0x41000000#32) = _
  rw [hrm]
  fin_cases a <;> fin_cases k <;> rfl

/-- Side `k` of the anchors, at every place of the grid. -/
def sideA (k : Nat) (h : S3x2.Slices ![0, k] S3x1) : FVec Ideal S32x3x52x52 .f32 :=
  broadcastInDim S32x3x52x52 ![0, 1, 2, 3] bcast_S1x3x1x1_S32x3x52x52_0_1_2_3
    (shapeCast S1x3x1x1 (shapeCast S3 (extractStridedSlice S3x1 ![0, k] anch h) shapeCasts_S3x1_S3) shapeCasts_S3_S1x3x1x1)

theorem sideA_at (k : Nat) (h) (hk : k < 2) (b : Fin 32) (a : Fin 3) (r w : Fin 52) : sideA k h (ix4 b a r w) = anch (ix2 a ⟨k, hk⟩) := by
  refine (broadcastInDim_apply _ _ _ _ (ix4 (0 : Fin 1) a (0 : Fin 1) (0 : Fin 1)) (fun i => by fin_cases i <;> rfl)).trans
    ((shapeCast_apply _ _ _ (ix1 a) ?_).trans ((shapeCast_apply _ _ _ (ix2 a (0 : Fin 1)) ?_).trans
      (extractStridedSlice_apply _ _ _ _ (ix2 a ⟨k, hk⟩) (fun i => by fin_cases i <;> simp))))
  · rw [Shape.rowMajor_val_one, Shape.rowMajor_val_four]; simp
  · rw [Shape.rowMajor_val_one, Shape.rowMajor_val_two]; simp

/-! ## The boxes -/

/-- An array with a last axis of one put on. -/
def up (v : FVec Ideal S32x3x52x52 .f32) : FVec Ideal S32x3x52x52x1 .f32 :=
  broadcastInDim S32x3x52x52x1 ![0, 1, 2, 3] bcast_S32x3x52x52_S32x3x52x52x1_0_1_2_3 v

theorem up_at (v : FVec Ideal S32x3x52x52 .f32) (b : Fin 32) (a : Fin 3) (r w : Fin 52) : up v (ix5 b a r w (0 : Fin 1)) = v (ix4 b a r w) :=
  broadcastInDim_apply _ _ _ _ _ (fun i => by fin_cases i <;> rfl)

/-- The horizontal centres, the vertical ones, the widths and the heights, in strides. -/
def bx : FVec Ideal S32x3x52x52 .f32 := addf (sigm bcast_S_S32x3x52x52 (chan x 0 slices_S32x3x52x52x85_S32x3x52x52x1_0_0_0_0_0)) gridX
def by' : FVec Ideal S32x3x52x52 .f32 := addf (sigm bcast_S_S32x3x52x52 (chan x 1 slices_S32x3x52x52x85_S32x3x52x52x1_0_0_0_0_1)) gridY
def bw : FVec Ideal S32x3x52x52 .f32 := mulf (Host.exp (chan x 2 slices_S32x3x52x52x85_S32x3x52x52x1_0_0_0_0_2)) (sideA 0 slices_S3x2_S3x1_0_0)
def bh : FVec Ideal S32x3x52x52 .f32 := mulf (Host.exp (chan x 3 slices_S32x3x52x52x85_S32x3x52x52x1_0_0_0_0_3)) (sideA 1 slices_S3x2_S3x1_0_1)

/-- The boxes' four columns. -/
def boxL : List ((s : Shape) × (s.Idx → Ideal .f32)) :=
  [⟨S32x3x52x52x1, up (bx x)⟩, ⟨S32x3x52x52x1, up (by' x)⟩, ⟨S32x3x52x52x1, up (bw x)⟩, ⟨S32x3x52x52x1, up (bh x)⟩]

/-- The boxes, in strides. -/
def boxes : FVec Ideal S32x3x52x52x4 .f32 :=
  concatenate S32x3x52x52x4 4 (boxL x) concatenates_S32x3x52x52x1_S32x3x52x52x1_S32x3x52x52x1_S32x3x52x52x1_S32x3x52x52x4_d4

/-- Column `n` of the boxes. -/
theorem boxes_at (n : Nat) (hn : n < 4) (v : FVec Ideal S32x3x52x52 .f32) (hv : (boxL x)[n]'hn = ⟨S32x3x52x52x1, up v⟩)
    (b : Fin 32) (a : Fin 3) (r w : Fin 52) : boxes x (ix5 b a r w ⟨n, hn⟩) = v (ix4 b a r w) :=
  (concatenate_apply_piece (t := S32x3x52x52x4) 4 (boxL x) _ (ix5 b a r w (⟨n, hn⟩ : Fin 4)) n hn S32x3x52x52x1 _ hv rfl n (by interval_cases n <;> rfl)
    (ix5 b a r w (0 : Fin 1)) (fun i hi => by fin_cases i <;> first | rfl | exact absurd rfl hi) (by simp)).trans (up_at v b a r w)

/-! ## The result -/

/-- The boxes in pixels, the objectness and the classes, a row for each place of each anchor's grid. -/
def outB : FVec Ideal S32x8112x4 .f32 :=
  mulf (shapeCast S32x8112x4 (boxes x) shapeCasts_S32x3x52x52x4_S32x8112x4) (broadcastInDim S32x8112x4 ![] bcast_S_S32x8112x4 (constant S_ .f32 0x41000000#32))
def outO : FVec Ideal S32x8112x1 .f32 :=
  shapeCast S32x8112x1 (sigm bcast_S_S32x3x52x52 (chan x 4 slices_S32x3x52x52x85_S32x3x52x52x1_0_0_0_0_4)) shapeCasts_S32x3x52x52_S32x8112x1
def outC : FVec Ideal S32x8112x80 .f32 :=
  shapeCast S32x8112x80 (sigm bcast_S_S32x3x52x52x80
    (extractStridedSlice S32x3x52x52x80 ![0, 0, 0, 0, 5] (pred x) slices_S32x3x52x52x85_S32x3x52x52x80_0_0_0_0_5)) shapeCasts_S32x3x52x52x80_S32x8112x80

/-- The result's three parts. -/
def outL : List ((s : Shape) × (s.Idx → Ideal .f32)) := [⟨S32x8112x4, outB x⟩, ⟨S32x8112x1, outO x⟩, ⟨S32x8112x80, outC x⟩]

/-- The reference's result. -/
def out : FVec Ideal S32x8112x85 .f32 :=
  concatenate S32x8112x85 2 (outL x) concatenates_S32x8112x4_S32x8112x1_S32x8112x80_S32x8112x85_d2

/-- It is what the reference's run leaves. -/
theorem res_eq (m : (ℓ : Loc nD τ sig) → Buf (Elt Ideal) ℓ) (c : Dev nD) :
    Cert.ReferenceIdeal.Value.res_main_v69 (F := Ideal) m c = out (m ((c.tc : Thread nD τ).loc main_arg0)) := rfl

/-- The coordinates a row of the result stands for. -/
def rowA (R : Fin 8112) : Fin 3 := ⟨R.val / 2704, by have := R.isLt; omega⟩
def rowR (R : Fin 8112) : Fin 52 := ⟨R.val % 2704 / 52, by omega⟩
def rowW (R : Fin 8112) : Fin 52 := ⟨R.val % 52, by omega⟩

/-- The row-major place of those coordinates is the row. -/
theorem row_place (R : Fin 8112) : ((rowA R).val * 52 + (rowR R).val) * 52 + (rowW R).val = R.val := by
  show (R.val / 2704 * 52 + R.val % 2704 / 52) * 52 + R.val % 52 = R.val
  omega

variable (b : Fin 32) (R : Fin 8112)

theorem outB_at (k : Fin 4) : outB x (ix3 b R k) = boxes x (ix5 b (rowA R) (rowR R) (rowW R) k) * Ideal.ofBits .f32 0x41000000#32 := by
  refine congrArg (· * Ideal.ofBits .f32 0x41000000#32) (shapeCast_apply _ _ _ (ix5 b (rowA R) (rowR R) (rowW R) k) ?_)
  rw [Shape.rowMajor_val_three, Shape.rowMajor_val_five]
  have := row_place R
  show (((b.val * 3 + (rowA R).val) * 52 + (rowR R).val) * 52 + (rowW R).val) * 4 + k.val = (b.val * 8112 + R.val) * 4 + k.val
  omega

theorem outO_at : outO x (ix3 b R (0 : Fin 1)) = rSg (xAt (F := Ideal) x b.val (85 * (rowA R).val + 4) (rowR R).val (rowW R).val) := by
  refine (shapeCast_apply _ _ _ (ix4 b (rowA R) (rowR R) (rowW R)) ?_).trans
    ((sigm_at _ _ _).trans (congrArg rSg (chan_at x 4 _ (by omega) b (rowA R) (rowR R) (rowW R))))
  rw [Shape.rowMajor_val_three, Shape.rowMajor_val_four]
  have := row_place R
  show ((b.val * 3 + (rowA R).val) * 52 + (rowR R).val) * 52 + (rowW R).val = (b.val * 8112 + R.val) * 1 + 0
  omega

theorem outC_at (k : Fin 80) : outC x (ix3 b R k) = rSg (xAt (F := Ideal) x b.val (85 * (rowA R).val + (5 + k.val)) (rowR R).val (rowW R).val) := by
  refine (shapeCast_apply _ _ _ (ix5 b (rowA R) (rowR R) (rowW R) k) ?_).trans ((sigm_at _ _ _).trans (congrArg rSg
    ((extractStridedSlice_apply _ _ _ _ (ix5 b (rowA R) (rowR R) (rowW R) (⟨5 + k.val, by omega⟩ : Fin 85)) (fun i => by fin_cases i <;> simp)).trans
      (pred_at x b (rowA R) (rowR R) (rowW R) ⟨5 + k.val, by omega⟩))))
  rw [Shape.rowMajor_val_three, Shape.rowMajor_val_five]
  have := row_place R
  show (((b.val * 3 + (rowA R).val) * 52 + (rowR R).val) * 52 + (rowW R).val) * 80 + k.val = (b.val * 8112 + R.val) * 80 + k.val
  omega

/-- The result's first four columns, its fifth and the rest are those three arrays'. -/
theorem out_box (c : Fin 85) (h : c.val < 4) : out x (ix3 b R c) = outB x (ix3 b R ⟨c.val, h⟩) :=
  concatenate_apply_piece (t := S32x8112x85) 2 (outL x) _ (ix3 b R c) 0 (by decide : 0 < 3) S32x8112x4 _ rfl rfl 0 rfl (ix3 b R ⟨c.val, h⟩)
    (fun i hi => by fin_cases i <;> first | rfl | exact absurd rfl hi) (by simp)
theorem out_obj (c : Fin 85) (h : c.val = 4) : out x (ix3 b R c) = outO x (ix3 b R (0 : Fin 1)) :=
  concatenate_apply_piece (t := S32x8112x85) 2 (outL x) _ (ix3 b R c) 1 (by decide : 1 < 3) S32x8112x1 _ rfl rfl 4 rfl (ix3 b R (0 : Fin 1))
    (fun i hi => by fin_cases i <;> first | rfl | exact absurd rfl hi) (by show 4 + 0 = c.val; omega)
theorem out_cls (c : Fin 85) (h : 5 ≤ c.val) : out x (ix3 b R c) = outC x (ix3 b R ⟨c.val - 5, by omega⟩) :=
  concatenate_apply_piece (t := S32x8112x85) 2 (outL x) _ (ix3 b R c) 2 (by decide : 2 < 3) S32x8112x80 _ rfl rfl 5 rfl (ix3 b R ⟨c.val - 5, by omega⟩)
    (fun i hi => by fin_cases i <;> first | rfl | exact absurd rfl hi) (by show 5 + (c.val - 5) = c.val; omega)

/-- The reference's result at an index is the kernel's. -/
theorem out_at (c : Fin 85) : out x (ix3 b R c) = Cert.Proof.Yolo.tgt (F := Ideal) x b.val R.val c.val := by
  unfold Cert.Proof.Yolo.tgt Cert.Proof.Yolo.cell
  split_ifs with h0 h1 h2 h3
  · obtain rfl : c = 0 := Fin.ext h0
    rw [out_box x b R _ (by decide), outB_at, show (⟨((0 : Fin 85) : Nat), by decide⟩ : Fin 4) = ⟨0, by omega⟩ from rfl,
      boxes_at x 0 (by omega) (bx x) rfl]
    refine congrArg (· * Ideal.ofBits .f32 0x41000000#32) (congrArg₂ (· + ·) ?_ (gridX_at b (rowA R) (rowR R) (rowW R)))
    exact (sigm_at _ _ _).trans ((congrArg rSg (chan_at x 0 _ (by omega) b (rowA R) (rowR R) (rowW R))).trans (sg_eq _).symm)
  · obtain rfl : c = 1 := Fin.ext h1
    rw [out_box x b R _ (by decide), outB_at, show (⟨((1 : Fin 85) : Nat), by decide⟩ : Fin 4) = ⟨1, by omega⟩ from rfl,
      boxes_at x 1 (by omega) (by' x) rfl]
    refine congrArg (· * Ideal.ofBits .f32 0x41000000#32) (congrArg₂ (· + ·) ?_ (gridY_at b (rowA R) (rowR R) (rowW R)))
    exact (sigm_at _ _ _).trans ((congrArg rSg (chan_at x 1 _ (by omega) b (rowA R) (rowR R) (rowW R))).trans (sg_eq _).symm)
  · obtain rfl : c = 2 := Fin.ext h2
    rw [out_box x b R _ (by decide), outB_at, show (⟨((2 : Fin 85) : Nat), by decide⟩ : Fin 4) = ⟨2, by omega⟩ from rfl,
      boxes_at x 2 (by omega) (bw x) rfl]
    refine congrArg (· * Ideal.ofBits .f32 0x41000000#32) (congrArg₂ (· * ·) (congrArg Ideal.exp (chan_at x 2 _ (by omega) b (rowA R) (rowR R) (rowW R))) ?_)
    exact (sideA_at 0 _ (by omega) b (rowA R) (rowR R) (rowW R)).trans ((anch_at _ _).trans (awS_eq _ (rowA R).isLt).symm)
  · obtain rfl : c = 3 := Fin.ext h3
    rw [out_box x b R _ (by decide), outB_at, show (⟨((3 : Fin 85) : Nat), by decide⟩ : Fin 4) = ⟨3, by omega⟩ from rfl,
      boxes_at x 3 (by omega) (bh x) rfl]
    refine congrArg (· * Ideal.ofBits .f32 0x41000000#32) (congrArg₂ (· * ·) (congrArg Ideal.exp (chan_at x 3 _ (by omega) b (rowA R) (rowR R) (rowW R))) ?_)
    exact (sideA_at 1 _ (by omega) b (rowA R) (rowR R) (rowW R)).trans ((anch_at _ _).trans (ahS_eq _ (rowA R).isLt).symm)
  · rcases Nat.lt_or_ge c.val 5 with h | h
    · have h4 : c.val = 4 := by omega
      rw [out_obj x b R c h4, outO_at, h4]
      exact (sg_eq _).symm
    · rw [out_cls x b R c h, outC_at]
      refine Eq.trans (congrArg (fun k => rSg (xAt (F := Ideal) x b.val k (rowR R).val (rowW R).val)) ?_) (sg_eq _).symm
      show 85 * (rowA R).val + (5 + (c.val - 5)) = 85 * (R.val / 2704) + c.val
      show 85 * (R.val / 2704) + (5 + (c.val - 5)) = 85 * (R.val / 2704) + c.val
      omega

/-- The reference's result is the kernel's. -/
theorem out_eq : out x = Cert.Proof.Yolo.result (F := Ideal) x := by
  funext j
  have hj : j = ix3 (j 0) (j 1) (j 2) := funext fun i => by fin_cases i <;> rfl
  rw [hj]
  exact out_at x (j 0) (j 1) (j 2)

end Cert.Proof.YoloRef

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem

/-- The kernel runs, keeps its argument and ends with every semaphore at zero. -/
theorem frame_kernel : Cert.quiescent_Kernel := fun m ρ _ =>
  (θ_run Cert.KernelIdeal.defs _ _).mono (fun _ h => ⟨fun c => (h.1 c).2, h.2⟩) (Cert.Proof.Yolo.run_main (F := Bits) m ρ)

/-- The same over the extended reals. -/
theorem frame_kernelIdeal : Cert.quiescent_KernelIdeal := fun m ρ _ =>
  (θ_run Cert.KernelIdeal.defs _ _).mono (fun _ h => ⟨fun c => (h.1 c).2, h.2⟩) (Cert.Proof.Yolo.run_main (F := Ideal) m ρ)

/-- The reference runs and keeps its argument; it has no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From the same argument, the kernel and the reference end with the same result over the extended reals: `Yolo.result` of the argument. -/
theorem algebraic : Cert.algebraic_KernelIdeal_ReferenceIdeal := by
  intro m ρ m' ρ' _ hagree
  refine ⟨fun c => Cert.Proof.Yolo.result (F := Ideal) (m (Cert.Proof.Yolo.xLoc c)),
    (θ_run Cert.KernelIdeal.defs _ _).mono (fun _ h c => h.1 c) (Cert.Proof.Yolo.run_main (F := Ideal) m ρ),
    (θ_run Cert.ReferenceIdeal.defs _ _).mono (fun _ h c => ⟨(h c).1.trans ?_, (h c).2⟩) (Cert.ReferenceIdeal.Value.run (F := Ideal) m' ρ')⟩
  refine (Cert.Proof.YoloRef.res_eq m' c).trans ((Cert.Proof.YoloRef.out_eq _).trans ?_)
  exact congrArg (Cert.Proof.Yolo.result (F := Ideal)) (hagree c)

/-- Everything claimed: the three frames, that the program read over the extended reals is the kernel's own text, and the value. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
